-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x5120 : Shape := ⟨3, ![1, 384, 5120]⟩
abbrev S5120x5120 : Shape := ⟨2, ![5120, 5120]⟩
abbrev S5120 : Shape := ⟨1, ![5120]⟩
abbrev S5120x16 : Shape := ⟨2, ![5120, 16]⟩
abbrev S16x5120 : Shape := ⟨2, ![16, 5120]⟩
abbrev S384x5120 : Shape := ⟨2, ![384, 5120]⟩
abbrev S1x5120 : Shape := ⟨2, ![1, 5120]⟩
abbrev S1x384 : Shape := ⟨2, ![1, 384]⟩
abbrev S384x1 : Shape := ⟨2, ![384, 1]⟩
abbrev S384x16 : Shape := ⟨2, ![384, 16]⟩
abbrev S6 : Shape := ⟨1, ![6]⟩
abbrev S10x2 : Shape := ⟨2, ![10, 2]⟩
abbrev S3 : Shape := ⟨1, ![3]⟩
abbrev S10 : Shape := ⟨1, ![10]⟩
abbrev S_ : Shape := ⟨0, ![]⟩
abbrev S1 : Shape := ⟨1, ![1]⟩
abbrev S64x5120 : Shape := ⟨2, ![64, 5120]⟩
abbrev S1x1 : Shape := ⟨2, ![1, 1]⟩
abbrev S2560x512 : Shape := ⟨2, ![2560, 512]⟩
abbrev S64 : Shape := ⟨1, ![64]⟩
abbrev S64x1 : Shape := ⟨2, ![64, 1]⟩
abbrev S64x16 : Shape := ⟨2, ![64, 16]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S5120x512 : Shape := ⟨2, ![5120, 512]⟩
abbrev S384x512 : Shape := ⟨2, ![384, 512]⟩
abbrev S16x512 : Shape := ⟨2, ![16, 512]⟩
abbrev S1x512 : Shape := ⟨2, ![1, 512]⟩
abbrev S1x384x1 : Shape := ⟨3, ![1, 384, 1]⟩

abbrev nBuf : Space → Nat
  | .hbm => 14
  | .vmem => 10
  | .smem => 0
  | _ => 0

abbrev bufTy : (tb : Table) → Fin (tcTables nBuf tb) → BufTy
  | .hbm, ⟨0, _⟩ => ⟨S1x384x5120, .bf16⟩
  | .hbm, ⟨1, _⟩ => ⟨S5120x5120, .fp8e4m3⟩
  | .hbm, ⟨2, _⟩ => ⟨S5120, .f32⟩
  | .hbm, ⟨3, _⟩ => ⟨S5120x16, .bf16⟩
  | .hbm, ⟨4, _⟩ => ⟨S16x5120, .bf16⟩
  | .hbm, ⟨5, _⟩ => ⟨S384x5120, .bf16⟩
  | .hbm, ⟨6, _⟩ => ⟨S1x5120, .f32⟩
  | .hbm, ⟨7, _⟩ => ⟨S16x5120, .bf16⟩
  | .hbm, ⟨8, _⟩ => ⟨S384x5120, .bf16⟩
  | .hbm, ⟨9, _⟩ => ⟨S384x5120, .fp8e4m3⟩
  | .hbm, ⟨10, _⟩ => ⟨S1x384, .f32⟩
  | .hbm, ⟨11, _⟩ => ⟨S1x384x5120, .bf16⟩
  | .hbm, ⟨12, _⟩ => ⟨S1x384x5120, .fp8e4m3⟩
  | .hbm, ⟨13, _⟩ => ⟨S1x384x1, .f32⟩
  | .local _ .vmem, ⟨0, _⟩ => ⟨S384x5120, .bf16⟩
  | .local _ .vmem, ⟨1, _⟩ => ⟨S5120x5120, .fp8e4m3⟩
  | .local _ .vmem, ⟨2, _⟩ => ⟨S1x5120, .f32⟩
  | .local _ .vmem, ⟨3, _⟩ => ⟨S16x5120, .bf16⟩
  | .local _ .vmem, ⟨4, _⟩ => ⟨S16x5120, .bf16⟩
  | .local _ .vmem, ⟨5, _⟩ => ⟨S384x5120, .bf16⟩
  | .local _ .vmem, ⟨6, _⟩ => ⟨S384x5120, .fp8e4m3⟩
  | .local _ .vmem, ⟨7, _⟩ => ⟨S384x1, .f32⟩
  | .local _ .vmem, ⟨8, _⟩ => ⟨S1x384, .f32⟩
  | .local _ .vmem, ⟨9, _⟩ => ⟨S384x16, .bf16⟩
  | _, _ => ⟨S1x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩

abbrev nD : Nat := 1
abbrev τ : Topo := Topo.v7x

variable {F : FTy → Type} [FloatOps F]

abbrev grid0 : Pipeline.Grid := .none
-- ==== ReferenceIdeal.lean ====
abbrev S1x384x5120 : Shape := ⟨3, ![1, 384, 5120]⟩
abbrev S5120x5120 : Shape := ⟨2, ![5120, 5120]⟩
abbrev S5120 : Shape := ⟨1, ![5120]⟩
abbrev S5120x16 : Shape := ⟨2, ![5120, 16]⟩
abbrev S16x5120 : Shape := ⟨2, ![16, 5120]⟩
abbrev S253 : Shape := ⟨1, ![253]⟩
abbrev S384x5120 : Shape := ⟨2, ![384, 5120]⟩
abbrev S1x5120 : Shape := ⟨2, ![1, 5120]⟩
abbrev S1x253 : Shape := ⟨2, ![1, 253]⟩
abbrev S384x1 : Shape := ⟨2, ![384, 1]⟩
abbrev S384 : Shape := ⟨1, ![384]⟩
abbrev S384x253 : Shape := ⟨2, ![384, 253]⟩
abbrev S384x16 : Shape := ⟨2, ![384, 16]⟩
abbrev S1x384x1 : Shape := ⟨3, ![1, 384, 1]⟩

abbrev nBuf : Space → Nat
  | .hbm => 15
  | .vmem => 9
  | .smem => 0
  | _ => 0

abbrev bufTy : (tb : Table) → Fin (tcTables nBuf tb) → BufTy
  | .hbm, ⟨0, _⟩ => ⟨S1x384x5120, .bf16⟩
  | .hbm, ⟨1, _⟩ => ⟨S5120x5120, .fp8e4m3⟩
  | .hbm, ⟨2, _⟩ => ⟨S5120, .f32⟩
  | .hbm, ⟨3, _⟩ => ⟨S5120x16, .bf16⟩
  | .hbm, ⟨4, _⟩ => ⟨S16x5120, .bf16⟩
  | .hbm, ⟨5, _⟩ => ⟨S253, .f32⟩
  | .hbm, ⟨6, _⟩ => ⟨S384x5120, .bf16⟩
  | .hbm, ⟨7, _⟩ => ⟨S1x5120, .f32⟩
  | .hbm, ⟨8, _⟩ => ⟨S1x253, .f32⟩
  | .hbm, ⟨9, _⟩ => ⟨S384x5120, .bf16⟩
  | .hbm, ⟨10, _⟩ => ⟨S384x5120, .fp8e4m3⟩
  | .hbm, ⟨11, _⟩ => ⟨S384x1, .f32⟩
  | .hbm, ⟨12, _⟩ => ⟨S1x384x5120, .bf16⟩
  | .hbm, ⟨13, _⟩ => ⟨S1x384x5120, .fp8e4m3⟩
  | .hbm, ⟨14, _⟩ => ⟨S1x384x1, .f32⟩
  | .local _ .vmem, ⟨0, _⟩ => ⟨S384x5120, .bf16⟩
  | .local _ .vmem, ⟨1, _⟩ => ⟨S5120x5120, .fp8e4m3⟩
  | .local _ .vmem, ⟨2, _⟩ => ⟨S1x5120, .f32⟩
  | .local _ .vmem, ⟨3, _⟩ => ⟨S5120x16, .bf16⟩
  | .local _ .vmem, ⟨4, _⟩ => ⟨S16x5120, .bf16⟩
  | .local _ .vmem, ⟨5, _⟩ => ⟨S1x253, .f32⟩
  | .local _ .vmem, ⟨6, _⟩ => ⟨S384x5120, .bf16⟩
  | .local _ .vmem, ⟨7, _⟩ => ⟨S384x5120, .fp8e4m3⟩
  | .local _ .vmem, ⟨8, _⟩ => ⟨S384x1, .f32⟩
  | _, _ => ⟨S1x384x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S384x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x253 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x5120 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Kernel.Run.lean ====
/-
  Hand-written. The kernel's body on one core, run once from whole buffers: from the five arguments, the three results and
  the ten scratch buffers held whole and the forty-six semaphore counters at zero, the body runs to its end, hands the
  arguments back unchanged, every counter back at zero, and leaves each result written with the list of pieces the run finds.
-/
module
public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Pipeline.FrameSuffixV
public import Idealize.ShloMosaic.Lib.Ring
public import Idealize.ShloMosaic.Lib.Tactic
@[expose] public section
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- Core `c`'s buffer `b` held whole at contents `f`. -/
abbrev bufPt (c : Dev nD) (b : Ref sig .tc) (f : Buf (Elt F) ((Memref.whole b).view.loc (c : Thread nD τ))) : sProp 𝕄 :=
  iprop((Memref.whole b).view.loc (c : Thread nD τ) ↦[(Memref.whole b).view.set]{fullShare} f)

set_option maxHeartbeats 2000000 in
/-- The body's run: the three lists of pieces it leaves in `y`, in the codes and in the scales (functions of what the scratch
    buffer each is copied from held at the start), and the triple that says so. -/
noncomputable def kernelRun (c : Dev nD) (fHx : Buf (Elt F) ((Memref.whole main_v0).view.loc (c : Thread nD τ))) (fHw : Buf (Elt F) ((Memref.whole main_arg1).view.loc (c : Thread nD τ))) (fHws : Buf (Elt F) ((Memref.whole main_v1).view.loc (c : Thread nD τ))) (fHa : Buf (Elt F) ((Memref.whole main_v2).view.loc (c : Thread nD τ))) (fHb : Buf (Elt F) ((Memref.whole main_arg4).view.loc (c : Thread nD τ))) :
    (Ly : Buf (Elt F) ((Memref.whole cc0_scratch5).view.loc (c : Thread nD τ)) → List (View.Piece (Elt F) S384x5120 .bf16)) ×'
    (Lc : Buf (Elt F) ((Memref.whole cc0_scratch6).view.loc (c : Thread nD τ)) → List (View.Piece (Elt F) S384x5120 .fp8e4m3)) ×'
    (Ls : Buf (Elt F) ((Memref.whole cc0_scratch8).view.loc (c : Thread nD τ)) → List (View.Piece (Elt F) S1x384 .f32)) ×'
    (∀ (fHy : Buf (Elt F) ((Memref.whole main_v3_0).view.loc (c : Thread nD τ))) (fHc : Buf (Elt F) ((Memref.whole main_v3_1).view.loc (c : Thread nD τ))) (fHs : Buf (Elt F) ((Memref.whole main_v3_2).view.loc (c : Thread nD τ))) (fSx : Buf (Elt F) ((Memref.whole cc0_scratch0).view.loc (c : Thread nD τ))) (fSw : Buf (Elt F) ((Memref.whole cc0_scratch1).view.loc (c : Thread nD τ))) (fSws : Buf (Elt F) ((Memref.whole cc0_scratch2).view.loc (c : Thread nD τ))) (fSa : Buf (Elt F) ((Memref.whole cc0_scratch3).view.loc (c : Thread nD τ))) (fSb : Buf (Elt F) ((Memref.whole cc0_scratch4).view.loc (c : Thread nD τ))) (fSy : Buf (Elt F) ((Memref.whole cc0_scratch5).view.loc (c : Thread nD τ))) (fSc : Buf (Elt F) ((Memref.whole cc0_scratch6).view.loc (c : Thread nD τ))) (fScol : Buf (Elt F) ((Memref.whole cc0_scratch7).view.loc (c : Thread nD τ))) (fSrow : Buf (Elt F) ((Memref.whole cc0_scratch8).view.loc (c : Thread nD τ))) (fSt : Buf (Elt F) ((Memref.whole cc0_scratch9).view.loc (c : Thread nD τ))) (W : Waits sig Unit) (K : PUnit → sProp 𝕄),
      iprop(bufPt c main_v0 fHx ∗ bufPt c main_arg1 fHw ∗ bufPt c main_v1 fHws ∗ bufPt c main_v2 fHa ∗ bufPt c main_arg4 fHb ∗ bufPt c main_v3_0 fHy ∗
        bufPt c main_v3_1 fHc ∗ bufPt c main_v3_2 fHs ∗ bufPt c cc0_scratch0 fSx ∗ bufPt c cc0_scratch1 fSw ∗ bufPt c cc0_scratch2 fSws ∗
        bufPt c cc0_scratch3 fSa ∗ bufPt c cc0_scratch4 fSb ∗ bufPt c cc0_scratch5 fSy ∗ bufPt c cc0_scratch6 fSc ∗ bufPt c cc0_scratch7 fScol ∗
        bufPt c cc0_scratch8 fSrow ∗ bufPt c cc0_scratch9 fSt ∗ semVal ((c : Thread nD τ), SemLoc.dma 0) 0 ∗
        semVal ((c : Thread nD τ), SemLoc.dma 1) 0 ∗ semVal ((c : Thread nD τ), SemLoc.dma 2) 0 ∗ semVal ((c : Thread nD τ), SemLoc.dma 3) 0 ∗
        semVal ((c : Thread nD τ), SemLoc.dma 4) 0 ∗ semVal ((c : Thread nD τ), SemLoc.dma 5) 0 ∗ semVal ((c : Thread nD τ), SemLoc.dma 6) 0 ∗
        semVal ((c : Thread nD τ), SemLoc.dma 7) 0 ∗ semVal ((c : Thread nD τ), SemLoc.dma 8) 0 ∗ semVal ((c : Thread nD τ), SemLoc.dma 9) 0 ∗
        semVal ((c : Thread nD τ), SemLoc.dma 10) 0 ∗ semVal ((c : Thread nD τ), SemLoc.dma 11) 0 ∗ semVal ((c : Thread nD τ), SemLoc.dma 12) 0 ∗
        semVal ((c : Thread nD τ), SemLoc.dma 13) 0 ∗ semVal ((c : Thread nD τ), SemLoc.dma 14) 0 ∗ semVal ((c : Thread nD τ), SemLoc.dma 15) 0 ∗
        semVal ((c : Thread nD τ), SemLoc.dma 16) 0 ∗ semVal ((c : Thread nD τ), SemLoc.dma 17) 0 ∗ semVal ((c : Thread nD τ), SemLoc.dma 18) 0 ∗
        semVal ((c : Thread nD τ), SemLoc.dma 19) 0 ∗ semVal ((c : Thread nD τ), SemLoc.dma 20) 0 ∗ semVal ((c : Thread nD τ), SemLoc.dma 21) 0 ∗
        semVal ((c : Thread nD τ), SemLoc.dma 22) 0 ∗ semVal ((c : Thread nD τ), SemLoc.dma 23) 0 ∗ semVal ((c : Thread nD τ), SemLoc.dma 24) 0 ∗
        semVal ((c : Thread nD τ), SemLoc.dma 25) 0 ∗ semVal ((c : Thread nD τ), SemLoc.dma 26) 0 ∗ semVal ((c : Thread nD τ), SemLoc.dma 27) 0 ∗
        semVal ((c : Thread nD τ), SemLoc.dma 28) 0 ∗ semVal ((c : Thread nD τ), SemLoc.dma 29) 0 ∗ semVal ((c : Thread nD τ), SemLoc.dma 30) 0 ∗
        semVal ((c : Thread nD τ), SemLoc.dma 31) 0 ∗ semVal ((c : Thread nD τ), SemLoc.dma 32) 0 ∗ semVal ((c : Thread nD τ), SemLoc.dma 33) 0 ∗
        semVal ((c : Thread nD τ), SemLoc.dma 34) 0 ∗ semVal ((c : Thread nD τ), SemLoc.dma 35) 0 ∗ semVal ((c : Thread nD τ), SemLoc.dma 36) 0 ∗
        semVal ((c : Thread nD τ), SemLoc.dma 37) 0 ∗ semVal ((c : Thread nD τ), SemLoc.dma 38) 0 ∗ semVal ((c : Thread nD τ), SemLoc.dma 39) 0 ∗
        semVal ((c : Thread nD τ), SemLoc.dma 40) 0 ∗ semVal ((c : Thread nD τ), SemLoc.dma 41) 0 ∗ semVal ((c : Thread nD τ), SemLoc.dma 42) 0 ∗
        semVal ((c : Thread nD τ), SemLoc.dma 43) 0 ∗ semVal ((c : Thread nD τ), SemLoc.dma 44) 0 ∗ semVal ((c : Thread nD τ), SemLoc.dma 45) 0 ∗
        owes (c : Thread nD τ) 0 W
        ∗ (iprop(bufPt c main_v0 fHx ∗ bufPt c main_arg1 fHw ∗ bufPt c main_v1 fHws ∗ bufPt c main_v2 fHa ∗ bufPt c main_arg4 fHb ∗
            bufPt c main_v3_0 ((Memref.whole main_v3_0).view.writes (Elt F) fHy (Ly fSy)) ∗
            bufPt c main_v3_1 ((Memref.whole main_v3_1).view.writes (Elt F) fHc (Lc fSc)) ∗
            bufPt c main_v3_2 ((Memref.whole main_v3_2).view.writes (Elt F) fHs (Ls fSrow)) ∗ (∃ f, bufPt c cc0_scratch0 f) ∗
            (∃ f, bufPt c cc0_scratch1 f) ∗ (∃ f, bufPt c cc0_scratch2 f) ∗ (∃ f, bufPt c cc0_scratch3 f) ∗ (∃ f, bufPt c cc0_scratch4 f) ∗
            (∃ f, bufPt c cc0_scratch5 f) ∗ (∃ f, bufPt c cc0_scratch6 f) ∗ (∃ f, bufPt c cc0_scratch7 f) ∗ (∃ f, bufPt c cc0_scratch8 f) ∗
            (∃ f, bufPt c cc0_scratch9 f) ∗ semVal ((c : Thread nD τ), SemLoc.dma 0) 0 ∗ semVal ((c : Thread nD τ), SemLoc.dma 1) 0 ∗
            semVal ((c : Thread nD τ), SemLoc.dma 2) 0 ∗ semVal ((c : Thread nD τ), SemLoc.dma 3) 0 ∗ semVal ((c : Thread nD τ), SemLoc.dma 4) 0 ∗
            semVal ((c : Thread nD τ), SemLoc.dma 5) 0 ∗ semVal ((c : Thread nD τ), SemLoc.dma 6) 0 ∗ semVal ((c : Thread nD τ), SemLoc.dma 7) 0 ∗
            semVal ((c : Thread nD τ), SemLoc.dma 8) 0 ∗ semVal ((c : Thread nD τ), SemLoc.dma 9) 0 ∗ semVal ((c : Thread nD τ), SemLoc.dma 10) 0 ∗
            semVal ((c : Thread nD τ), SemLoc.dma 11) 0 ∗ semVal ((c : Thread nD τ), SemLoc.dma 12) 0 ∗ semVal ((c : Thread nD τ), SemLoc.dma 13) 0 ∗
            semVal ((c : Thread nD τ), SemLoc.dma 14) 0 ∗ semVal ((c : Thread nD τ), SemLoc.dma 15) 0 ∗ semVal ((c : Thread nD τ), SemLoc.dma 16) 0 ∗
            semVal ((c : Thread nD τ), SemLoc.dma 17) 0 ∗ semVal ((c : Thread nD τ), SemLoc.dma 18) 0 ∗ semVal ((c : Thread nD τ), SemLoc.dma 19) 0 ∗
            semVal ((c : Thread nD τ), SemLoc.dma 20) 0 ∗ semVal ((c : Thread nD τ), SemLoc.dma 21) 0 ∗ semVal ((c : Thread nD τ), SemLoc.dma 22) 0 ∗
            semVal ((c : Thread nD τ), SemLoc.dma 23) 0 ∗ semVal ((c : Thread nD τ), SemLoc.dma 24) 0 ∗ semVal ((c : Thread nD τ), SemLoc.dma 25) 0 ∗
            semVal ((c : Thread nD τ), SemLoc.dma 26) 0 ∗ semVal ((c : Thread nD τ), SemLoc.dma 27) 0 ∗ semVal ((c : Thread nD τ), SemLoc.dma 28) 0 ∗
            semVal ((c : Thread nD τ), SemLoc.dma 29) 0 ∗ semVal ((c : Thread nD τ), SemLoc.dma 30) 0 ∗ semVal ((c : Thread nD τ), SemLoc.dma 31) 0 ∗
            semVal ((c : Thread nD τ), SemLoc.dma 32) 0 ∗ semVal ((c : Thread nD τ), SemLoc.dma 33) 0 ∗ semVal ((c : Thread nD τ), SemLoc.dma 34) 0 ∗
            semVal ((c : Thread nD τ), SemLoc.dma 35) 0 ∗ semVal ((c : Thread nD τ), SemLoc.dma 36) 0 ∗ semVal ((c : Thread nD τ), SemLoc.dma 37) 0 ∗
            semVal ((c : Thread nD τ), SemLoc.dma 38) 0 ∗ semVal ((c : Thread nD τ), SemLoc.dma 39) 0 ∗ semVal ((c : Thread nD τ), SemLoc.dma 40) 0 ∗
            semVal ((c : Thread nD τ), SemLoc.dma 41) 0 ∗ semVal ((c : Thread nD τ), SemLoc.dma 42) 0 ∗ semVal ((c : Thread nD τ), SemLoc.dma 43) 0 ∗
            semVal ((c : Thread nD τ), SemLoc.dma 44) 0 ∗ semVal ((c : Thread nD τ), SemLoc.dma 45) 0 ∗ (∃ W', owes (c : Thread nD τ) 0 W')) -∗ K ⟨⟩))
      ⊢ wp frame (wpE (defs₀ (F := F)) Variants.none c none) Set.univ (bodyAt0 t0_0) K) := by
  refine ⟨?_, ?_, ?_, fun fHy fHc fHs fSx fSw fSws fSa fSb fSy fSc fScol fSrow fSt W K => ?run⟩
  case run =>
    unfold bodyAt0 bufPt
    iintro ⟨Hx, Hw, Hws, Ha, Hb, Hy, Hc, Hs, Sx, Sw, Sws, Sa, Sb, Sy, Sc, Scol, Srow, St, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, HW, Hk⟩
    set_option sl_exec.dmaWindow true in
    set_option sl_exec.dmaWindowLent true in
    set_option sl_exec.dmaWindowSet true in
    set_option sl_exec.lendShare "Sc" in
    set_option sl_exec.rejoinFuel 64 in
    sl_exec_parts
    sl_step
    iapply Hk
    isplitl [Hx]; · iexact Hx
    isplitl [Hw]; · iexact Hw
    isplitl [Hws]; · iexact Hws
    isplitl [Ha]; · iexact Ha
    isplitl [Hb]; · iexact Hb
    isplitl [Hy]; · iexact Hy
    isplitl [Hc]; · iexact Hc
    isplitl [Hs]; · iexact Hs
    isplitl [Sx]; · iexists _; iexact Sx
    isplitl [Sw]; · iexists _; iexact Sw
    isplitl [Sws]; · iexists _; iexact Sws
    isplitl [Sa]; · iexists _; iexact Sa
    isplitl [Sb]; · iexists _; iexact Sb
    isplitl [Sy]; · iexists _; iexact Sy
    isplitl [Sc]; · iexists _; iexact Sc
    isplitl [Scol]; · iexists _; iexact Scol
    isplitl [Srow]; · iexists _; iexact Srow
    isplitl [St]; · iexists _; iexact St
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    iexists _; iexact HW

end Cert.Kernel.Hand
end
-- ==== Proof.Kernel.Parts.lean ====
/-
  Hand-written. What the body computes, as plain functions of the five arrays it reads: the quantiser of one chunk of
  sixty-four rows, the row of scales, one slab of 512 result columns, and the three whole results put together from
  them. And how a rectangle of a matrix is indexed.
-/
module
public import proofs.«01_k».proof.Proof.Gen.Kernel.Skeleton
public import Idealize.ShloMosaic.Lib.Pipeline.FrameBody
public import Idealize.ShloMosaic.Lib.Writes
public import Idealize.ShloMosaic.Lib.Pointwise
@[expose] public section
set_option maxRecDepth 16384
noncomputable section
namespace Cert.Kernel.Hand
open Cert.Kernel Cert.Kernel.Gen
open Idealize.ShloMosaic
variable {F : FTy → Type} [FloatOps F]

/-! ## Blocks of rows and of columns of a matrix -/

/-- The `k`-th block of `H` rows. -/
def rowBlk {M H n N : ℕ} {α : Type} (h : M = n * H) (X : (⟨2, ![M, N]⟩ : Shape).Idx → α) (k : Fin n) :
    (⟨2, ![H, N]⟩ : Shape).Idx → α := fun j =>
  X (ix2 ⟨k.val * H + (j 0).val, by
    have h0 : (j 0).val < H := (j 0).isLt
    have h1 : (k.val + 1) * H ≤ n * H := Nat.mul_le_mul_right _ k.isLt
    rw [Nat.add_mul, Nat.one_mul] at h1; omega⟩ (j 1))

/-- The `k`-th block of `W` columns. -/
def colBlk {R W n N : ℕ} {α : Type} (h : N = n * W) (X : (⟨2, ![R, N]⟩ : Shape).Idx → α) (k : Fin n) :
    (⟨2, ![R, W]⟩ : Shape).Idx → α := fun j =>
  X (ix2 (j 0) ⟨k.val * W + (j 1).val, by
    have h0 : (j 1).val < W := (j 1).isLt
    have h1 : (k.val + 1) * W ≤ n * W := Nat.mul_le_mul_right _ k.isLt
    rw [Nat.add_mul, Nat.one_mul] at h1; omega⟩)

/-- The matrix whose blocks of rows are given. -/
def ofRows {M H n N : ℕ} {α : Type} (h : M = n * H) (hH : 0 < H) (g : Fin n → (⟨2, ![H, N]⟩ : Shape).Idx → α) :
    (⟨2, ![M, N]⟩ : Shape).Idx → α := fun y =>
  g ⟨(y 0).val / H, by
    have h0 : (y 0).val < M := (y 0).isLt
    exact (Nat.div_lt_iff_lt_mul hH).mpr (by omega)⟩ (ix2 ⟨(y 0).val % H, Nat.mod_lt _ hH⟩ (y 1))

/-- The matrix whose blocks of columns are given. -/
def ofCols {R W n N : ℕ} {α : Type} (h : N = n * W) (hW : 0 < W) (g : Fin n → (⟨2, ![R, W]⟩ : Shape).Idx → α) :
    (⟨2, ![R, N]⟩ : Shape).Idx → α := fun y =>
  g ⟨(y 1).val / W, by
    have h0 : (y 1).val < N := (y 1).isLt
    exact (Nat.div_lt_iff_lt_mul hW).mpr (by omega)⟩ (ix2 (y 0) ⟨(y 1).val % W, Nat.mod_lt _ hW⟩)

/-- A unit-stride rectangle at `(o, p)` places its index `j` at `(o + j 0, p + j 1)`. -/
theorem unit_emb {M N A B o p : ℕ} (inb : ∀ a, (![o, p] : Fin 2 → ℕ) a + (![A, B] : Fin 2 → ℕ) a ≤ (⟨2, ![M, N]⟩ : Shape).size a)
    (j : (⟨2, ![A, B]⟩ : Shape).Idx) (h0 : o + (j 0).val < M) (h1 : p + (j 1).val < N) :
    (Rect.unit (s := ⟨2, ![M, N]⟩) ![o, p] ![A, B] inb).emb j = ix2 ⟨o + (j 0).val, h0⟩ ⟨p + (j 1).val, h1⟩ := by
  funext a
  apply Fin.ext
  rw [Rect.emb_apply]
  match a with
  | ⟨0, _⟩ => simp only [Rect.unit]; exact congrArg (o + ·) (Nat.one_mul _)
  | ⟨1, _⟩ => simp only [Rect.unit]; exact congrArg (p + ·) (Nat.one_mul _)

/-- Reading a matrix through the rectangle of its `k`-th block of rows gives that block. -/
theorem rowBlk_emb {M H n N o : ℕ} {α : Type} (h : M = n * H) (X : (⟨2, ![M, N]⟩ : Shape).Idx → α) (k : Fin n) (ho : o = k.val * H)
    (inb : ∀ a, (![o, 0] : Fin 2 → ℕ) a + (![H, N] : Fin 2 → ℕ) a ≤ (⟨2, ![M, N]⟩ : Shape).size a) :
    (fun j => X ((Rect.unit (s := ⟨2, ![M, N]⟩) ![o, 0] ![H, N] inb).emb j)) = rowBlk h X k := by
  subst ho
  funext j
  have h0 : (j 0).val < H := (j 0).isLt
  have h1 : (j 1).val < N := (j 1).isLt
  have hk : (k.val + 1) * H ≤ n * H := Nat.mul_le_mul_right _ k.isLt
  rw [Nat.add_mul, Nat.one_mul] at hk
  unfold rowBlk
  rw [unit_emb inb j (by omega) (by omega)]
  congr 2
  exact Fin.ext (Nat.zero_add _)

/-- Reading a matrix through the rectangle of its `k`-th block of columns gives that block. -/
theorem colBlk_emb {R W n N p : ℕ} {α : Type} (h : N = n * W) (X : (⟨2, ![R, N]⟩ : Shape).Idx → α) (k : Fin n) (hp : p = k.val * W)
    (inb : ∀ a, (![0, p] : Fin 2 → ℕ) a + (![R, W] : Fin 2 → ℕ) a ≤ (⟨2, ![R, N]⟩ : Shape).size a) :
    (fun j => X ((Rect.unit (s := ⟨2, ![R, N]⟩) ![0, p] ![R, W] inb).emb j)) = colBlk h X k := by
  subst hp
  funext j
  have h0 : (j 0).val < R := (j 0).isLt
  have h1 : (j 1).val < W := (j 1).isLt
  have hk : (k.val + 1) * W ≤ n * W := Nat.mul_le_mul_right _ k.isLt
  rw [Nat.add_mul, Nat.one_mul] at hk
  unfold colBlk
  rw [unit_emb inb j (by omega) (by omega)]
  congr 2
  exact Fin.ext (Nat.zero_add _)

/-- A whole matrix read through the rectangle of everything is itself. -/
theorem whole_emb {M N : ℕ} {α : Type} (X : (⟨2, ![M, N]⟩ : Shape).Idx → α)
    (inb : ∀ a, (![0, 0] : Fin 2 → ℕ) a + (![M, N] : Fin 2 → ℕ) a ≤ (⟨2, ![M, N]⟩ : Shape).size a) :
    (fun j => X ((Rect.unit (s := ⟨2, ![M, N]⟩) ![0, 0] ![M, N] inb).emb j)) = X := by
  funext j
  have h0 : (j 0).val < M := (j 0).isLt
  have h1 : (j 1).val < N := (j 1).isLt
  rw [unit_emb inb j (by omega) (by omega)]
  congr 1
  refine Eq.trans ?_ (eq_ix2 j).symm
  congr 1
  · exact Fin.ext (Nat.zero_add _)
  · exact Fin.ext (Nat.zero_add _)

/-- The `k`-th block of rows of a matrix put together from blocks of rows. -/
theorem rowBlk_ofRows {M H n N : ℕ} {α : Type} (h : M = n * H) (hH : 0 < H) (g : Fin n → (⟨2, ![H, N]⟩ : Shape).Idx → α) (k : Fin n) :
    rowBlk h (ofRows h hH g) k = g k := by
  funext j
  have h0 : (j 0).val < H := (j 0).isLt
  unfold rowBlk ofRows
  have e1 : (k.val * H + (j 0).val) / H = k.val := by
    rw [Nat.mul_comm, Nat.mul_add_div hH, Nat.div_eq_of_lt h0, Nat.add_zero]
  have e2 : (k.val * H + (j 0).val) % H = (j 0).val := by
    rw [Nat.mul_comm, Nat.mul_add_mod, Nat.mod_eq_of_lt h0]
  have ek : (⟨(k.val * H + (j 0).val) / H, by rw [e1]; exact k.isLt⟩ : Fin n) = k := Fin.ext e1
  have ej : (ix2 ⟨(k.val * H + (j 0).val) % H, Nat.mod_lt _ hH⟩ (j 1) : (⟨2, ![H, N]⟩ : Shape).Idx) = j := by
    refine Eq.trans ?_ (eq_ix2 j).symm
    congr 1
    exact Fin.ext e2
  exact (congrArg (fun i => g i _) ek).trans (congrArg (g k) ej)

/-- The `k`-th block of columns of a matrix put together from blocks of columns. -/
theorem colBlk_ofCols {R W n N : ℕ} {α : Type} (h : N = n * W) (hW : 0 < W) (g : Fin n → (⟨2, ![R, W]⟩ : Shape).Idx → α) (k : Fin n) :
    colBlk h (ofCols h hW g) k = g k := by
  funext j
  have h0 : (j 1).val < W := (j 1).isLt
  unfold colBlk ofCols
  have e1 : (k.val * W + (j 1).val) / W = k.val := by
    rw [Nat.mul_comm, Nat.mul_add_div hW, Nat.div_eq_of_lt h0, Nat.add_zero]
  have e2 : (k.val * W + (j 1).val) % W = (j 1).val := by
    rw [Nat.mul_comm, Nat.mul_add_mod, Nat.mod_eq_of_lt h0]
  have ek : (⟨(k.val * W + (j 1).val) / W, by rw [e1]; exact k.isLt⟩ : Fin n) = k := Fin.ext e1
  have ej : (ix2 (j 0) ⟨(k.val * W + (j 1).val) % W, Nat.mod_lt _ hW⟩ : (⟨2, ![R, W]⟩ : Shape).Idx) = j := by
    refine Eq.trans ?_ (eq_ix2 j).symm
    congr 1
    exact Fin.ext e2
  exact (congrArg (fun i => g i _) ek).trans (congrArg (g k) ej)

/-! ## The quantiser of one chunk of sixty-four rows -/

/-- Each row's largest magnitude. -/
def chunkMax (v : Vec F S64x5120 .bf16) : FVec F S64x1 .f32 := k0_pay1 v

/-- One step of the search for the exponent field: the bit `b` is taken when the float with the field so far and `b`
    still does not exceed `u`. -/
def fieldStep (u : FVec F S64x1 .f32) (b : BitVec 32) (f : IVec S64x1 32) : IVec S64x1 32 :=
  select (cmpf .oge u (bitcastToFloat .f32 (shli (addi f (broadcast S64x1 b)) (broadcast S64x1 23#32))))
    (addi f (broadcast S64x1 b)) f

/-- The search over the eight bits. -/
def field (u : FVec F S64x1 .f32) : IVec S64x1 32 :=
  fieldStep u 1#32 (fieldStep u 2#32 (fieldStep u 4#32 (fieldStep u 8#32 (fieldStep u 16#32 (fieldStep u 32#32
    (fieldStep u 64#32 (fieldStep u 128#32 (broadcast S64x1 0#32))))))))

/-- The scale's exponent, from a row's largest magnitude. -/
def expo (a : FVec F S64x1 .f32) : IVec S64x1 32 :=
  have f : IVec S64x1 32 := field (mulf a (broadcast S64x1 (Scalar.ofBits .f32 0x3B124925#32)))
  select (cmpf .oeq a (broadcast S64x1 (Scalar.ofBits .f32 0x00000000#32))) (broadcast S64x1 0#32)
    (select (ori (cmpi .eq f (broadcast S64x1 0#32)) (cmpi .eq f (broadcast S64x1 255#32))) (broadcast S64x1 0#32)
      (subi f (broadcast S64x1 126#32)))

/-- The power of two at an exponent: zero from -127 down, infinity from 128 up. -/
def pow2 (e : IVec S64x1 32) : FVec F S64x1 .f32 :=
  have b : IVec S64x1 32 := addi e (broadcast S64x1 127#32)
  bitcastToFloat .f32 (select (cmpi .sle b (broadcast S64x1 0#32)) (broadcast S64x1 0#32)
    (select (cmpi .sge b (broadcast S64x1 255#32)) (broadcast S64x1 2139095040#32) (shli b (broadcast S64x1 23#32))))

/-- A chunk's codes. -/
def chunkCodes (v : Vec F S64x5120 .bf16) : FVec F S64x5120 .fp8e4m3 :=
  shapeCast S64x5120 (truncf .fp8e4m3
    (minimumf (broadcast S64x5120 (Scalar.truncf .bf16 bitsLt_bf16_f32 (Scalar.ofBits .f32 0x43E00000#32)))
      (maximumf (broadcast S64x5120 (Scalar.truncf .bf16 bitsLt_bf16_f32 (Scalar.ofBits .f32 0xC3E00000#32)))
        (mulf v (broadcastTo S64x5120 (truncf .bf16 (pow2 (subi (broadcast S64x1 0#32) (expo (chunkMax v)))) bitsLt_bf16_f32)
          broadcasts_S64x1_S64x5120)))) bitsLt_fp8e4m3_bf16) shapeCasts_S64x5120_S64x5120

/-- A chunk's column of scales. -/
def chunkScale (v : Vec F S64x5120 .bf16) : FVec F S64x1 .f32 :=
  shapeCast S64x1 (pow2 (expo (chunkMax v))) shapeCasts_S64x1_S64x1

/-- A chunk's product with the low-rank factor. -/
def chunkT (v : Vec F S64x5120 .bf16) (a : Vec F S16x5120 .bf16) : FVec F S64x16 .bf16 := k0_pay17 v a

/-! ## The results -/

/-- All the codes. -/
def codesAll (X : Vec F S384x5120 .bf16) : Vec F S384x5120 .fp8e4m3 :=
  ofRows (n := 6) (H := 64) (by norm_num) (by norm_num) fun k => chunkCodes (rowBlk (by norm_num) X k)
/-- All the scales, as a column. -/
def scaleCol (X : Vec F S384x5120 .bf16) : Vec F S384x1 .f32 :=
  ofRows (n := 6) (H := 64) (by norm_num) (by norm_num) fun k => chunkScale (rowBlk (by norm_num) X k)
/-- All the scales, as a row. -/
def scaleRow (X : Vec F S384x5120 .bf16) : Vec F S1x384 .f32 :=
  ofCols (n := 3) (W := 128) (by norm_num) (by norm_num) fun k => k0_pay82 (rowBlk (by norm_num) (scaleCol X) k)
/-- The product with the low-rank factor. -/
def tAll (X : Vec F S384x5120 .bf16) (A : Vec F S16x5120 .bf16) : Vec F S384x16 .bf16 :=
  ofRows (n := 6) (H := 64) (by norm_num) (by norm_num) fun k => chunkT (rowBlk (by norm_num) X k) A
/-- One slab of 512 columns of `y`, from the codes, the slab's columns of the weights, the low-rank product, the slab's
    columns of the second factor, the scales and the slab's weight scales. -/
def slab (C : Vec F S384x5120 .fp8e4m3) (w : Vec F S5120x512 .fp8e4m3) (t : Vec F S384x16 .bf16) (b : Vec F S16x512 .bf16)
    (s : Vec F S384x1 .f32) (ws : Vec F S1x512 .f32) : FVec F S384x512 .bf16 := k0_pay103 C w t b s ws
/-- All of `y`. -/
def yAll (X : Vec F S384x5120 .bf16) (W : Vec F S5120x5120 .fp8e4m3) (WS : Vec F S1x5120 .f32) (A B : Vec F S16x5120 .bf16) :
    Vec F S384x5120 .bf16 :=
  ofCols (n := 10) (W := 512) (by norm_num) (by norm_num) fun k =>
    slab (codesAll X) (colBlk (by norm_num) W k) (tAll X A) (colBlk (by norm_num) B k) (scaleCol X) (colBlk (by norm_num) WS k)

end Cert.Kernel.Hand
end
-- ==== Proof.Kernel.Lists.lean ====
/-
  Hand-written. The pieces the body's run stores into its scratch buffers are blocks of the results of `Parts`: the codes,
  the scales, the low-rank product and the slabs of `y`.
-/
module
public import proofs.«01_k».proof.Proof.Kernel.Run
public import proofs.«01_k».proof.Proof.Kernel.Parts
@[expose] public section
set_option maxRecDepth 16384
noncomputable section
namespace Cert.Kernel.Hand
open Cert.Kernel Cert.Kernel.Gen
open Idealize.ShloMosaic Idealize.ShloMosaic.TcCoe Idealize.ShloMosaic.Tactic
variable {F : FTy → Type} [FloatOps F]

section Lists
variable {sig' : RefSig} {κ : Kind} {sp : Space} {s : Shape} {e : EltTy} {Val : EltTy → Type}

/-- A load through a rectangle the pieces cover, every piece agreeing with one function, reads that function there. -/
theorem readCov_of_pieces [∀ e, Nonempty (Val e)] (v : View sig' κ sp s e) (L : List (View.Piece Val s e)) (r : Rect s) (G : s.Idx → Val e)
    (hG : ∀ p ∈ L, ∀ x : p.1.shape.Idx, p.2 x = G (p.1.emb x)) (hc : ∀ y : s.Idx, ∃ p ∈ L, y ∈ p.1.set) :
    v.readCov L r.toLoadRect = fun j => G (r.emb j) := by
  rw [View.readCov_eq_canon_ld v L r hc]
  funext j
  show View.canon L (r.emb j) = _
  rw [← View.read_writes_junk_apply_eq_canon v (r.emb j) L]
  exact View.read_writes_apply_of_pieces v _ G L hG _ (hc _)

/-- A block copied out of a buffer whose pieces agree with one function reads that function there, when one piece is the block. -/
theorem block_of_pieces (v : View sig' κ sp s e) (f : v.ty.Contents Val) (L : List (View.Piece Val s e)) (r : Rect s) (G : s.Idx → Val e)
    (hG : ∀ p ∈ L, ∀ x : p.1.shape.Idx, p.2 x = G (p.1.emb x)) (hc : ∃ p ∈ L, p.1 = r) (x : r.shape.Idx) :
    v.read Val (v.writes Val f L) (r.emb x) = G (r.emb x) := by
  refine View.read_writes_apply_of_pieces v _ G L hG _ ?_
  obtain ⟨p, hp, rfl⟩ := hc
  exact ⟨p, hp, by rw [← Rect.map_emb_univ]; exact Finset.mem_map_of_mem _ (Finset.mem_univ _)⟩
end Lists

variable (c : Dev nD)
  (fHx : Buf (Elt F) (View.loc (c.tc : Thread nD τ) (Memref.whole main_v0).view))
  (fHw : Buf (Elt F) (View.loc (c.tc : Thread nD τ) (Memref.whole main_arg1).view))
  (fHws : Buf (Elt F) (View.loc (c.tc : Thread nD τ) (Memref.whole main_v1).view))
  (fHa : Buf (Elt F) (View.loc (c.tc : Thread nD τ) (Memref.whole main_v2).view))
  (fHb : Buf (Elt F) (View.loc (c.tc : Thread nD τ) (Memref.whole main_arg4).view))
  (fSy : Buf (Elt F) (View.loc (c.tc : Thread nD τ) (Memref.whole cc0_scratch5).view))
  (fSc : Buf (Elt F) (View.loc (c.tc : Thread nD τ) (Memref.whole cc0_scratch6).view))
  (fSrow : Buf (Elt F) (View.loc (c.tc : Thread nD τ) (Memref.whole cc0_scratch8).view))

/-! ## The chunks of `x` -/

theorem x_chunk0 : kernelRun.sl.v116 c fHx = rowBlk (n := 6) (H := 64) (by norm_num) fHx 0 := by
  unfold kernelRun.sl.v116
  rw [readCov_of_pieces _ _ _ (G := fHx)]
  · exact rowBlk_emb (n := 6) (H := 64) (by norm_num) fHx 0 (by rfl) _
  · repeat refine List.forall_mem_cons.mpr ⟨fun _ => rfl, ?_⟩
    exact List.forall_mem_nil _
  · exact View.cover_of_tiledL _ S64x5120.size (by sl_kernel_rfl)

theorem x_chunk1 : kernelRun.sl.v263 c fHx = rowBlk (n := 6) (H := 64) (by norm_num) fHx 1 := by
  unfold kernelRun.sl.v263
  rw [readCov_of_pieces _ _ _ (G := fHx)]
  · exact rowBlk_emb (n := 6) (H := 64) (by norm_num) fHx 1 (by rfl) _
  · repeat refine List.forall_mem_cons.mpr ⟨fun _ => rfl, ?_⟩
    exact List.forall_mem_nil _
  · exact View.cover_of_tiledL _ S64x5120.size (by sl_kernel_rfl)

theorem x_chunk2 : kernelRun.sl.v410 c fHx = rowBlk (n := 6) (H := 64) (by norm_num) fHx 2 := by
  unfold kernelRun.sl.v410
  rw [readCov_of_pieces _ _ _ (G := fHx)]
  · exact rowBlk_emb (n := 6) (H := 64) (by norm_num) fHx 2 (by rfl) _
  · repeat refine List.forall_mem_cons.mpr ⟨fun _ => rfl, ?_⟩
    exact List.forall_mem_nil _
  · exact View.cover_of_tiledL _ S64x5120.size (by sl_kernel_rfl)

theorem x_chunk3 : kernelRun.sl.v557 c fHx = rowBlk (n := 6) (H := 64) (by norm_num) fHx 3 := by
  unfold kernelRun.sl.v557
  rw [readCov_of_pieces _ _ _ (G := fHx)]
  · exact rowBlk_emb (n := 6) (H := 64) (by norm_num) fHx 3 (by rfl) _
  · repeat refine List.forall_mem_cons.mpr ⟨fun _ => rfl, ?_⟩
    exact List.forall_mem_nil _
  · exact View.cover_of_tiledL _ S64x5120.size (by sl_kernel_rfl)

theorem x_chunk4 : kernelRun.sl.v704 c fHx = rowBlk (n := 6) (H := 64) (by norm_num) fHx 4 := by
  unfold kernelRun.sl.v704
  rw [readCov_of_pieces _ _ _ (G := fHx)]
  · exact rowBlk_emb (n := 6) (H := 64) (by norm_num) fHx 4 (by rfl) _
  · repeat refine List.forall_mem_cons.mpr ⟨fun _ => rfl, ?_⟩
    exact List.forall_mem_nil _
  · exact View.cover_of_tiledL _ S64x5120.size (by sl_kernel_rfl)

theorem x_chunk5 : kernelRun.sl.v851 c fHx = rowBlk (n := 6) (H := 64) (by norm_num) fHx 5 := by
  unfold kernelRun.sl.v851
  rw [readCov_of_pieces _ _ _ (G := fHx)]
  · exact rowBlk_emb (n := 6) (H := 64) (by norm_num) fHx 5 (by rfl) _
  · repeat refine List.forall_mem_cons.mpr ⟨fun _ => rfl, ?_⟩
    exact List.forall_mem_nil _
  · exact View.cover_of_tiledL _ S64x5120.size (by sl_kernel_rfl)

/-! ## The chunks' codes, scales and low-rank products -/

theorem codes_chunk0 : k0_pay15 (kernelRun.sl.r_6 c fHx) = chunkCodes (rowBlk (n := 6) (H := 64) (by norm_num) fHx 0) := by
  rw [← x_chunk0 c fHx]; rfl
theorem scale_chunk0 : k0_pay16 (kernelRun.sl.r_7 c fHx) (kernelRun.sl.r_8 c fHx) (kernelRun.sl.r_9 c fHx) = chunkScale (rowBlk (n := 6) (H := 64) (by norm_num) fHx 0) := by
  rw [← x_chunk0 c fHx]; rfl
theorem codes_chunk1 : k0_pay28 (kernelRun.sl.v263 c fHx) (kernelRun.sl.r_15 c fHx) (kernelRun.sl.r_16 c fHx) k0_pay27 = chunkCodes (rowBlk (n := 6) (H := 64) (by norm_num) fHx 1) := by
  rw [← x_chunk1 c fHx]; rfl
theorem scale_chunk1 : k0_pay29 (kernelRun.sl.r_14 c fHx) = chunkScale (rowBlk (n := 6) (H := 64) (by norm_num) fHx 1) := by
  rw [← x_chunk1 c fHx]; rfl
theorem codes_chunk2 : k0_pay41 (kernelRun.sl.r_25 c fHx) = chunkCodes (rowBlk (n := 6) (H := 64) (by norm_num) fHx 2) := by
  rw [← x_chunk2 c fHx]; rfl
theorem scale_chunk2 : k0_pay42 (kernelRun.sl.r_24 c fHx) k0_pay40 = chunkScale (rowBlk (n := 6) (H := 64) (by norm_num) fHx 2) := by
  rw [← x_chunk2 c fHx]; rfl
theorem codes_chunk3 : k0_pay50 (kernelRun.sl.v557 c fHx) (kernelRun.sl.r_30 c fHx) 0#32 = chunkCodes (rowBlk (n := 6) (H := 64) (by norm_num) fHx 3) := by
  rw [← x_chunk3 c fHx]; rfl
theorem scale_chunk3 : k0_pay51 (kernelRun.sl.r_31 c fHx) = chunkScale (rowBlk (n := 6) (H := 64) (by norm_num) fHx 3) := by
  rw [← x_chunk3 c fHx]; rfl
theorem codes_chunk4 : k0_pay61 (kernelRun.sl.r_39 c fHx) kernelRun.sl.cst_420 = chunkCodes (rowBlk (n := 6) (H := 64) (by norm_num) fHx 4) := by
  rw [← x_chunk4 c fHx]; rfl
theorem scale_chunk4 : k0_pay62 (kernelRun.sl.r_38 c fHx) = chunkScale (rowBlk (n := 6) (H := 64) (by norm_num) fHx 4) := by
  rw [← x_chunk4 c fHx]; rfl
theorem codes_chunk5 : k0_pay78 (kernelRun.sl.r_46 c fHx) = chunkCodes (rowBlk (n := 6) (H := 64) (by norm_num) fHx 5) := by
  rw [← x_chunk5 c fHx]; rfl
theorem scale_chunk5 : k0_pay79 (kernelRun.sl.r_47 c fHx) (kernelRun.sl.r_48 c fHx) k0_pay77 = chunkScale (rowBlk (n := 6) (H := 64) (by norm_num) fHx 5) := by
  rw [← x_chunk5 c fHx]; rfl

theorem a_whole : kernelRun.sl.v253 c fHa = fHa := by
  unfold kernelRun.sl.v253
  rw [readCov_of_pieces _ _ _ (G := fHa)]
  · exact whole_emb fHa _
  · refine List.forall_mem_cons.mpr ⟨fun x => ?_, fun _ h => absurd h List.not_mem_nil⟩
    show fHa x = fHa ((Rect.whole _).emb x)
    rw [Rect.emb_whole_apply]
  · exact View.cover_of_tiledL _ S16x5120.size (by sl_kernel_rfl)

theorem t_chunk0 : k0_pay17 (kernelRun.sl.v116 c fHx) (kernelRun.sl.v253 c fHa) = chunkT (rowBlk (n := 6) (H := 64) (by norm_num) fHx 0) fHa := by
  rw [← x_chunk0 c fHx]; refine Eq.trans ?_ (congrArg (chunkT _) (a_whole c fHa)); rfl
theorem t_chunk1 : k0_pay31 (kernelRun.sl.r_17 c fHx fHa) = chunkT (rowBlk (n := 6) (H := 64) (by norm_num) fHx 1) fHa := by
  rw [← x_chunk1 c fHx]; refine Eq.trans ?_ (congrArg (chunkT _) (a_whole c fHa)); rfl
theorem t_chunk2 : k0_pay43 (kernelRun.sl.v410 c fHx) (kernelRun.sl.v253 c fHa) = chunkT (rowBlk (n := 6) (H := 64) (by norm_num) fHx 2) fHa := by
  rw [← x_chunk2 c fHx]; refine Eq.trans ?_ (congrArg (chunkT _) (a_whole c fHa)); rfl
theorem t_chunk3 : k0_pay52 (kernelRun.sl.v557 c fHx) (kernelRun.sl.v253 c fHa) = chunkT (rowBlk (n := 6) (H := 64) (by norm_num) fHx 3) fHa := by
  rw [← x_chunk3 c fHx]; refine Eq.trans ?_ (congrArg (chunkT _) (a_whole c fHa)); rfl
theorem t_chunk4 : k0_pay63 (kernelRun.sl.v704 c fHx) (kernelRun.sl.v253 c fHa) = chunkT (rowBlk (n := 6) (H := 64) (by norm_num) fHx 4) fHa := by
  rw [← x_chunk4 c fHx]; refine Eq.trans ?_ (congrArg (chunkT _) (a_whole c fHa)); rfl
theorem t_chunk5 : k0_pay80 (kernelRun.sl.v851 c fHx) (kernelRun.sl.v253 c fHa) = chunkT (rowBlk (n := 6) (H := 64) (by norm_num) fHx 5) fHa := by
  rw [← x_chunk5 c fHx]; refine Eq.trans ?_ (congrArg (chunkT _) (a_whole c fHa)); rfl

/-- A piece that is the `k`-th block of rows of a matrix put together from blocks of rows. -/
theorem piece_rows {M H n N o : ℕ} {α : Type} (h : M = n * H) (hH : 0 < H) (g : Fin n → (⟨2, ![H, N]⟩ : Shape).Idx → α) (k : Fin n)
    (ho : o = k.val * H) (inb : ∀ a, (![o, 0] : Fin 2 → ℕ) a + (![H, N] : Fin 2 → ℕ) a ≤ (⟨2, ![M, N]⟩ : Shape).size a)
    (w : (⟨2, ![H, N]⟩ : Shape).Idx → α) (hw : w = g k) (x : (⟨2, ![H, N]⟩ : Shape).Idx) :
    w x = ofRows h hH g ((Rect.unit (s := ⟨2, ![M, N]⟩) ![o, 0] ![H, N] inb).emb x) := by
  have e := congrFun (rowBlk_emb h (ofRows h hH g) k ho inb) x
  rw [rowBlk_ofRows] at e
  rw [hw]; exact e.symm

/-- A piece that is the `k`-th block of columns of a matrix put together from blocks of columns. -/
theorem piece_cols {Q W n N p : ℕ} {α : Type} (h : N = n * W) (hW : 0 < W) (g : Fin n → (⟨2, ![Q, W]⟩ : Shape).Idx → α) (k : Fin n)
    (hp : p = k.val * W) (inb : ∀ a, (![0, p] : Fin 2 → ℕ) a + (![Q, W] : Fin 2 → ℕ) a ≤ (⟨2, ![Q, N]⟩ : Shape).size a)
    (w : (⟨2, ![Q, W]⟩ : Shape).Idx → α) (hw : w = g k) (x : (⟨2, ![Q, W]⟩ : Shape).Idx) :
    w x = ofCols h hW g ((Rect.unit (s := ⟨2, ![Q, N]⟩) ![0, p] ![Q, W] inb).emb x) := by
  have e := congrFun (colBlk_emb h (ofCols h hW g) k hp inb) x
  rw [colBlk_ofCols] at e
  rw [hw]; exact e.symm

/-- The pieces stored into the codes are blocks of the codes. -/
theorem codes_pieces1 : ∀ p ∈ kernelRun.sl.Sc_1 c fHx, ∀ x : p.1.shape.Idx, p.2 x = codesAll fHx (p.1.emb x) := by
  unfold kernelRun.sl.Sc_1
  exact List.forall_mem_cons.mpr ⟨fun x => piece_rows (by norm_num) (by norm_num) _ 0 (by rfl) inb_S384x5120_S64x5120_0_0 _ (codes_chunk0 c fHx) x,
    (fun _ h => absurd h List.not_mem_nil)⟩
theorem codes_pieces2 : ∀ p ∈ kernelRun.sl.Sc_2 c fHx, ∀ x : p.1.shape.Idx, p.2 x = codesAll fHx (p.1.emb x) := by
  unfold kernelRun.sl.Sc_2
  exact List.forall_mem_cons.mpr ⟨fun x => piece_rows (by norm_num) (by norm_num) _ 1 (by rfl) inb_S384x5120_S64x5120_64_0 _ (codes_chunk1 c fHx) x,
    (codes_pieces1 c fHx)⟩
theorem codes_pieces3 : ∀ p ∈ kernelRun.sl.Sc_3 c fHx, ∀ x : p.1.shape.Idx, p.2 x = codesAll fHx (p.1.emb x) := by
  unfold kernelRun.sl.Sc_3
  exact List.forall_mem_cons.mpr ⟨fun x => piece_rows (by norm_num) (by norm_num) _ 2 (by rfl) inb_S384x5120_S64x5120_128_0 _ (codes_chunk2 c fHx) x,
    (codes_pieces2 c fHx)⟩
theorem codes_pieces4 : ∀ p ∈ kernelRun.sl.Sc_4 c fHx, ∀ x : p.1.shape.Idx, p.2 x = codesAll fHx (p.1.emb x) := by
  unfold kernelRun.sl.Sc_4
  exact List.forall_mem_cons.mpr ⟨fun x => piece_rows (by norm_num) (by norm_num) _ 3 (by rfl) inb_S384x5120_S64x5120_192_0 _ (codes_chunk3 c fHx) x,
    (codes_pieces3 c fHx)⟩
theorem codes_pieces5 : ∀ p ∈ kernelRun.sl.Sc_5 c fHx, ∀ x : p.1.shape.Idx, p.2 x = codesAll fHx (p.1.emb x) := by
  unfold kernelRun.sl.Sc_5
  exact List.forall_mem_cons.mpr ⟨fun x => piece_rows (by norm_num) (by norm_num) _ 4 (by rfl) inb_S384x5120_S64x5120_256_0 _ (codes_chunk4 c fHx) x,
    (codes_pieces4 c fHx)⟩
theorem codes_pieces6 : ∀ p ∈ kernelRun.sl.Sc_6 c fHx, ∀ x : p.1.shape.Idx, p.2 x = codesAll fHx (p.1.emb x) := by
  unfold kernelRun.sl.Sc_6
  exact List.forall_mem_cons.mpr ⟨fun x => piece_rows (by norm_num) (by norm_num) _ 5 (by rfl) inb_S384x5120_S64x5120_320_0 _ (codes_chunk5 c fHx) x,
    (codes_pieces5 c fHx)⟩
theorem codes_cover : ∀ y : (⟨2, ![384, 5120]⟩ : Shape).Idx, ∃ p ∈ kernelRun.sl.Sc_6 c fHx, y ∈ p.1.set :=
  View.cover_of_tiledL _ (![64, 5120] : Fin 2 → ℕ) (by sl_kernel_rfl)

/-- The pieces stored into the column of scales are blocks of it. -/
theorem scale_pieces1 : ∀ p ∈ kernelRun.sl.Scol_1 c fHx, ∀ x : p.1.shape.Idx, p.2 x = scaleCol fHx (p.1.emb x) := by
  unfold kernelRun.sl.Scol_1
  exact List.forall_mem_cons.mpr ⟨fun x => piece_rows (by norm_num) (by norm_num) _ 0 (by rfl) inb_S384x1_S64x1_0_0 _ (scale_chunk0 c fHx) x,
    (fun _ h => absurd h List.not_mem_nil)⟩
theorem scale_pieces2 : ∀ p ∈ kernelRun.sl.Scol_2 c fHx, ∀ x : p.1.shape.Idx, p.2 x = scaleCol fHx (p.1.emb x) := by
  unfold kernelRun.sl.Scol_2
  exact List.forall_mem_cons.mpr ⟨fun x => piece_rows (by norm_num) (by norm_num) _ 1 (by rfl) inb_S384x1_S64x1_64_0 _ (scale_chunk1 c fHx) x,
    (scale_pieces1 c fHx)⟩
theorem scale_pieces3 : ∀ p ∈ kernelRun.sl.Scol_3 c fHx, ∀ x : p.1.shape.Idx, p.2 x = scaleCol fHx (p.1.emb x) := by
  unfold kernelRun.sl.Scol_3
  exact List.forall_mem_cons.mpr ⟨fun x => piece_rows (by norm_num) (by norm_num) _ 2 (by rfl) inb_S384x1_S64x1_128_0 _ (scale_chunk2 c fHx) x,
    (scale_pieces2 c fHx)⟩
theorem scale_pieces4 : ∀ p ∈ kernelRun.sl.Scol_4 c fHx, ∀ x : p.1.shape.Idx, p.2 x = scaleCol fHx (p.1.emb x) := by
  unfold kernelRun.sl.Scol_4
  exact List.forall_mem_cons.mpr ⟨fun x => piece_rows (by norm_num) (by norm_num) _ 3 (by rfl) inb_S384x1_S64x1_192_0 _ (scale_chunk3 c fHx) x,
    (scale_pieces3 c fHx)⟩
theorem scale_pieces5 : ∀ p ∈ kernelRun.sl.Scol_5 c fHx, ∀ x : p.1.shape.Idx, p.2 x = scaleCol fHx (p.1.emb x) := by
  unfold kernelRun.sl.Scol_5
  exact List.forall_mem_cons.mpr ⟨fun x => piece_rows (by norm_num) (by norm_num) _ 4 (by rfl) inb_S384x1_S64x1_256_0 _ (scale_chunk4 c fHx) x,
    (scale_pieces4 c fHx)⟩
theorem scale_pieces6 : ∀ p ∈ kernelRun.sl.Scol_6 c fHx, ∀ x : p.1.shape.Idx, p.2 x = scaleCol fHx (p.1.emb x) := by
  unfold kernelRun.sl.Scol_6
  exact List.forall_mem_cons.mpr ⟨fun x => piece_rows (by norm_num) (by norm_num) _ 5 (by rfl) inb_S384x1_S64x1_320_0 _ (scale_chunk5 c fHx) x,
    (scale_pieces5 c fHx)⟩
theorem scale_cover : ∀ y : (⟨2, ![384, 1]⟩ : Shape).Idx, ∃ p ∈ kernelRun.sl.Scol_6 c fHx, y ∈ p.1.set :=
  View.cover_of_tiledL _ (![64, 1] : Fin 2 → ℕ) (by sl_kernel_rfl)

/-- The pieces stored into the low-rank product are blocks of it. -/
theorem t_pieces1 : ∀ p ∈ kernelRun.sl.St_1 c fHx fHa, ∀ x : p.1.shape.Idx, p.2 x = tAll fHx fHa (p.1.emb x) := by
  unfold kernelRun.sl.St_1
  exact List.forall_mem_cons.mpr ⟨fun x => piece_rows (by norm_num) (by norm_num) _ 0 (by rfl) inb_S384x16_S64x16_0_0 _ (t_chunk0 c fHx fHa) x,
    (fun _ h => absurd h List.not_mem_nil)⟩
theorem t_pieces2 : ∀ p ∈ kernelRun.sl.St_2 c fHx fHa, ∀ x : p.1.shape.Idx, p.2 x = tAll fHx fHa (p.1.emb x) := by
  unfold kernelRun.sl.St_2
  exact List.forall_mem_cons.mpr ⟨fun x => piece_rows (by norm_num) (by norm_num) _ 1 (by rfl) inb_S384x16_S64x16_64_0 _ (t_chunk1 c fHx fHa) x,
    (t_pieces1 c fHx fHa)⟩
theorem t_pieces3 : ∀ p ∈ kernelRun.sl.St_3 c fHx fHa, ∀ x : p.1.shape.Idx, p.2 x = tAll fHx fHa (p.1.emb x) := by
  unfold kernelRun.sl.St_3
  exact List.forall_mem_cons.mpr ⟨fun x => piece_rows (by norm_num) (by norm_num) _ 2 (by rfl) inb_S384x16_S64x16_128_0 _ (t_chunk2 c fHx fHa) x,
    (t_pieces2 c fHx fHa)⟩
theorem t_pieces4 : ∀ p ∈ kernelRun.sl.St_4 c fHx fHa, ∀ x : p.1.shape.Idx, p.2 x = tAll fHx fHa (p.1.emb x) := by
  unfold kernelRun.sl.St_4
  exact List.forall_mem_cons.mpr ⟨fun x => piece_rows (by norm_num) (by norm_num) _ 3 (by rfl) inb_S384x16_S64x16_192_0 _ (t_chunk3 c fHx fHa) x,
    (t_pieces3 c fHx fHa)⟩
theorem t_pieces5 : ∀ p ∈ kernelRun.sl.St_5 c fHx fHa, ∀ x : p.1.shape.Idx, p.2 x = tAll fHx fHa (p.1.emb x) := by
  unfold kernelRun.sl.St_5
  exact List.forall_mem_cons.mpr ⟨fun x => piece_rows (by norm_num) (by norm_num) _ 4 (by rfl) inb_S384x16_S64x16_256_0 _ (t_chunk4 c fHx fHa) x,
    (t_pieces4 c fHx fHa)⟩
theorem t_pieces6 : ∀ p ∈ kernelRun.sl.St_6 c fHx fHa, ∀ x : p.1.shape.Idx, p.2 x = tAll fHx fHa (p.1.emb x) := by
  unfold kernelRun.sl.St_6
  exact List.forall_mem_cons.mpr ⟨fun x => piece_rows (by norm_num) (by norm_num) _ 5 (by rfl) inb_S384x16_S64x16_320_0 _ (t_chunk5 c fHx fHa) x,
    (t_pieces5 c fHx fHa)⟩
theorem t_cover : ∀ y : (⟨2, ![384, 16]⟩ : Shape).Idx, ∃ p ∈ kernelRun.sl.St_6 c fHx fHa, y ∈ p.1.set :=
  View.cover_of_tiledL _ (![64, 16] : Fin 2 → ℕ) (by sl_kernel_rfl)

theorem codes_whole : kernelRun.sl.v1039 c fHx = codesAll fHx := by
  unfold kernelRun.sl.v1039
  rw [readCov_of_pieces _ _ _ (G := codesAll fHx) (codes_pieces6 c fHx) (codes_cover c fHx)]
  exact whole_emb (codesAll fHx) _
theorem scale_whole : kernelRun.sl.v1045 c fHx = scaleCol fHx := by
  unfold kernelRun.sl.v1045
  rw [readCov_of_pieces _ _ _ (G := scaleCol fHx) (scale_pieces6 c fHx) (scale_cover c fHx)]
  exact whole_emb (scaleCol fHx) _
theorem t_whole : kernelRun.sl.v1042 c fHx fHa = tAll fHx fHa := by
  unfold kernelRun.sl.v1042
  rw [readCov_of_pieces _ _ _ (G := tAll fHx fHa) (t_pieces6 c fHx fHa) (t_cover c fHx fHa)]
  exact whole_emb (tAll fHx fHa) _

/-! ## The row of scales -/

theorem scale_block0 : kernelRun.sl.v997 c fHx = rowBlk (n := 3) (H := 128) (by norm_num) (scaleCol fHx) 0 := by
  unfold kernelRun.sl.v997
  rw [readCov_of_pieces _ _ _ (G := scaleCol fHx) (scale_pieces6 c fHx) (scale_cover c fHx)]
  exact rowBlk_emb (n := 3) (H := 128) (by norm_num) (scaleCol fHx) 0 (by rfl) _
theorem scale_block1 : kernelRun.sl.v1007 c fHx = rowBlk (n := 3) (H := 128) (by norm_num) (scaleCol fHx) 1 := by
  unfold kernelRun.sl.v1007
  rw [readCov_of_pieces _ _ _ (G := scaleCol fHx) (scale_pieces6 c fHx) (scale_cover c fHx)]
  exact rowBlk_emb (n := 3) (H := 128) (by norm_num) (scaleCol fHx) 1 (by rfl) _
theorem scale_block2 : kernelRun.sl.v1017 c fHx = rowBlk (n := 3) (H := 128) (by norm_num) (scaleCol fHx) 2 := by
  unfold kernelRun.sl.v1017
  rw [readCov_of_pieces _ _ _ (G := scaleCol fHx) (scale_pieces6 c fHx) (scale_cover c fHx)]
  exact rowBlk_emb (n := 3) (H := 128) (by norm_num) (scaleCol fHx) 2 (by rfl) _
theorem row_block0 : k0_pay82 (kernelRun.sl.v997 c fHx) = k0_pay82 (rowBlk (n := 3) (H := 128) (by norm_num) (scaleCol fHx) 0) := by
  rw [← scale_block0 c fHx]
theorem row_block1 : k0_pay84 (kernelRun.sl.r_49 c fHx) = k0_pay82 (rowBlk (n := 3) (H := 128) (by norm_num) (scaleCol fHx) 1) := by
  rw [← scale_block1 c fHx]; rfl
theorem row_block2 : k0_pay85 k0_pay81 (kernelRun.sl.v1017 c fHx) = k0_pay82 (rowBlk (n := 3) (H := 128) (by norm_num) (scaleCol fHx) 2) := by
  rw [← scale_block2 c fHx]; rfl
theorem row_pieces : ∀ p ∈ kernelRun.sl.Srow_3 c fHx, ∀ x : p.1.shape.Idx, p.2 x = scaleRow fHx (p.1.emb x) := by
  unfold kernelRun.sl.Srow_3 kernelRun.sl.Srow_1
  exact List.forall_mem_cons.mpr ⟨fun x => piece_cols (by norm_num) (by norm_num) _ 2 (by rfl) inb_S1x384_S1x128_0_256 _ (row_block2 c fHx) x,
    List.forall_mem_cons.mpr ⟨fun x => piece_cols (by norm_num) (by norm_num) _ 1 (by rfl) inb_S1x384_S1x128_0_128 _ (row_block1 c fHx) x,
    List.forall_mem_cons.mpr ⟨fun x => piece_cols (by norm_num) (by norm_num) _ 0 (by rfl) inb_S1x384_S1x128_0_0 _ (row_block0 c fHx) x,
    fun _ h => absurd h List.not_mem_nil⟩⟩⟩
theorem row_cover : ∀ y : (⟨2, ![1, 384]⟩ : Shape).Idx, ∃ p ∈ kernelRun.sl.Srow_3 c fHx, y ∈ p.1.set :=
  View.cover_of_tiledL _ (![1, 128] : Fin 2 → ℕ) (by sl_kernel_rfl)

/-! ## The slabs -/

theorem w_slab0 : kernelRun.sl.v1040 c fHw = colBlk (n := 10) (W := 512) (by norm_num) fHw 0 := by
  unfold kernelRun.sl.v1040
  rw [readCov_of_pieces _ _ _ (G := fHw)]
  · exact colBlk_emb (n := 10) (W := 512) (by norm_num) fHw 0 (by rfl) _
  · repeat refine List.forall_mem_cons.mpr ⟨fun _ => rfl, ?_⟩
    exact fun _ h => absurd h List.not_mem_nil
  · exact View.cover_of_tiledL _ S2560x512.size (by sl_kernel_rfl)
theorem b_slab0 : kernelRun.sl.v1043 c fHb = colBlk (n := 10) (W := 512) (by norm_num) fHb 0 := by
  unfold kernelRun.sl.v1043
  rw [readCov_of_pieces _ _ _ (G := fHb)]
  · exact colBlk_emb (n := 10) (W := 512) (by norm_num) fHb 0 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab0 : kernelRun.sl.v1048 c fHws = colBlk (n := 10) (W := 512) (by norm_num) fHws 0 := by
  unfold kernelRun.sl.v1048
  rw [readCov_of_pieces _ _ _ (G := fHws)]
  · exact colBlk_emb (n := 10) (W := 512) (by norm_num) fHws 0 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab1 : kernelRun.sl.v1091 c fHw = colBlk (n := 10) (W := 512) (by norm_num) fHw 1 := by
  unfold kernelRun.sl.v1091
  rw [readCov_of_pieces _ _ _ (G := fHw)]
  · exact colBlk_emb (n := 10) (W := 512) (by norm_num) fHw 1 (by rfl) _
  · repeat refine List.forall_mem_cons.mpr ⟨fun _ => rfl, ?_⟩
    exact fun _ h => absurd h List.not_mem_nil
  · exact View.cover_of_tiledL _ S2560x512.size (by sl_kernel_rfl)
theorem b_slab1 : kernelRun.sl.v1094 c fHb = colBlk (n := 10) (W := 512) (by norm_num) fHb 1 := by
  unfold kernelRun.sl.v1094
  rw [readCov_of_pieces _ _ _ (G := fHb)]
  · exact colBlk_emb (n := 10) (W := 512) (by norm_num) fHb 1 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab1 : kernelRun.sl.v1099 c fHws = colBlk (n := 10) (W := 512) (by norm_num) fHws 1 := by
  unfold kernelRun.sl.v1099
  rw [readCov_of_pieces _ _ _ (G := fHws)]
  · exact colBlk_emb (n := 10) (W := 512) (by norm_num) fHws 1 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab2 : kernelRun.sl.v1122 c fHw = colBlk (n := 10) (W := 512) (by norm_num) fHw 2 := by
  unfold kernelRun.sl.v1122
  rw [readCov_of_pieces _ _ _ (G := fHw)]
  · exact colBlk_emb (n := 10) (W := 512) (by norm_num) fHw 2 (by rfl) _
  · repeat refine List.forall_mem_cons.mpr ⟨fun _ => rfl, ?_⟩
    exact fun _ h => absurd h List.not_mem_nil
  · exact View.cover_of_tiledL _ S2560x512.size (by sl_kernel_rfl)
theorem b_slab2 : kernelRun.sl.v1125 c fHb = colBlk (n := 10) (W := 512) (by norm_num) fHb 2 := by
  unfold kernelRun.sl.v1125
  rw [readCov_of_pieces _ _ _ (G := fHb)]
  · exact colBlk_emb (n := 10) (W := 512) (by norm_num) fHb 2 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab2 : kernelRun.sl.v1130 c fHws = colBlk (n := 10) (W := 512) (by norm_num) fHws 2 := by
  unfold kernelRun.sl.v1130
  rw [readCov_of_pieces _ _ _ (G := fHws)]
  · exact colBlk_emb (n := 10) (W := 512) (by norm_num) fHws 2 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab3 : kernelRun.sl.v1153 c fHw = colBlk (n := 10) (W := 512) (by norm_num) fHw 3 := by
  unfold kernelRun.sl.v1153
  rw [readCov_of_pieces _ _ _ (G := fHw)]
  · exact colBlk_emb (n := 10) (W := 512) (by norm_num) fHw 3 (by rfl) _
  · repeat refine List.forall_mem_cons.mpr ⟨fun _ => rfl, ?_⟩
    exact fun _ h => absurd h List.not_mem_nil
  · exact View.cover_of_tiledL _ S2560x512.size (by sl_kernel_rfl)
theorem b_slab3 : kernelRun.sl.v1156 c fHb = colBlk (n := 10) (W := 512) (by norm_num) fHb 3 := by
  unfold kernelRun.sl.v1156
  rw [readCov_of_pieces _ _ _ (G := fHb)]
  · exact colBlk_emb (n := 10) (W := 512) (by norm_num) fHb 3 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab3 : kernelRun.sl.v1161 c fHws = colBlk (n := 10) (W := 512) (by norm_num) fHws 3 := by
  unfold kernelRun.sl.v1161
  rw [readCov_of_pieces _ _ _ (G := fHws)]
  · exact colBlk_emb (n := 10) (W := 512) (by norm_num) fHws 3 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab4 : kernelRun.sl.v1184 c fHw = colBlk (n := 10) (W := 512) (by norm_num) fHw 4 := by
  unfold kernelRun.sl.v1184
  rw [readCov_of_pieces _ _ _ (G := fHw)]
  · exact colBlk_emb (n := 10) (W := 512) (by norm_num) fHw 4 (by rfl) _
  · repeat refine List.forall_mem_cons.mpr ⟨fun _ => rfl, ?_⟩
    exact fun _ h => absurd h List.not_mem_nil
  · exact View.cover_of_tiledL _ S2560x512.size (by sl_kernel_rfl)
theorem b_slab4 : kernelRun.sl.v1187 c fHb = colBlk (n := 10) (W := 512) (by norm_num) fHb 4 := by
  unfold kernelRun.sl.v1187
  rw [readCov_of_pieces _ _ _ (G := fHb)]
  · exact colBlk_emb (n := 10) (W := 512) (by norm_num) fHb 4 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab4 : kernelRun.sl.v1192 c fHws = colBlk (n := 10) (W := 512) (by norm_num) fHws 4 := by
  unfold kernelRun.sl.v1192
  rw [readCov_of_pieces _ _ _ (G := fHws)]
  · exact colBlk_emb (n := 10) (W := 512) (by norm_num) fHws 4 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab5 : kernelRun.sl.v1215 c fHw = colBlk (n := 10) (W := 512) (by norm_num) fHw 5 := by
  unfold kernelRun.sl.v1215
  rw [readCov_of_pieces _ _ _ (G := fHw)]
  · exact colBlk_emb (n := 10) (W := 512) (by norm_num) fHw 5 (by rfl) _
  · repeat refine List.forall_mem_cons.mpr ⟨fun _ => rfl, ?_⟩
    exact fun _ h => absurd h List.not_mem_nil
  · exact View.cover_of_tiledL _ S2560x512.size (by sl_kernel_rfl)
theorem b_slab5 : kernelRun.sl.v1218 c fHb = colBlk (n := 10) (W := 512) (by norm_num) fHb 5 := by
  unfold kernelRun.sl.v1218
  rw [readCov_of_pieces _ _ _ (G := fHb)]
  · exact colBlk_emb (n := 10) (W := 512) (by norm_num) fHb 5 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab5 : kernelRun.sl.v1223 c fHws = colBlk (n := 10) (W := 512) (by norm_num) fHws 5 := by
  unfold kernelRun.sl.v1223
  rw [readCov_of_pieces _ _ _ (G := fHws)]
  · exact colBlk_emb (n := 10) (W := 512) (by norm_num) fHws 5 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab6 : kernelRun.sl.v1246 c fHw = colBlk (n := 10) (W := 512) (by norm_num) fHw 6 := by
  unfold kernelRun.sl.v1246
  rw [readCov_of_pieces _ _ _ (G := fHw)]
  · exact colBlk_emb (n := 10) (W := 512) (by norm_num) fHw 6 (by rfl) _
  · repeat refine List.forall_mem_cons.mpr ⟨fun _ => rfl, ?_⟩
    exact fun _ h => absurd h List.not_mem_nil
  · exact View.cover_of_tiledL _ S2560x512.size (by sl_kernel_rfl)
theorem b_slab6 : kernelRun.sl.v1249 c fHb = colBlk (n := 10) (W := 512) (by norm_num) fHb 6 := by
  unfold kernelRun.sl.v1249
  rw [readCov_of_pieces _ _ _ (G := fHb)]
  · exact colBlk_emb (n := 10) (W := 512) (by norm_num) fHb 6 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab6 : kernelRun.sl.v1254 c fHws = colBlk (n := 10) (W := 512) (by norm_num) fHws 6 := by
  unfold kernelRun.sl.v1254
  rw [readCov_of_pieces _ _ _ (G := fHws)]
  · exact colBlk_emb (n := 10) (W := 512) (by norm_num) fHws 6 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab7 : kernelRun.sl.v1277 c fHw = colBlk (n := 10) (W := 512) (by norm_num) fHw 7 := by
  unfold kernelRun.sl.v1277
  rw [readCov_of_pieces _ _ _ (G := fHw)]
  · exact colBlk_emb (n := 10) (W := 512) (by norm_num) fHw 7 (by rfl) _
  · repeat refine List.forall_mem_cons.mpr ⟨fun _ => rfl, ?_⟩
    exact fun _ h => absurd h List.not_mem_nil
  · exact View.cover_of_tiledL _ S2560x512.size (by sl_kernel_rfl)
theorem b_slab7 : kernelRun.sl.v1280 c fHb = colBlk (n := 10) (W := 512) (by norm_num) fHb 7 := by
  unfold kernelRun.sl.v1280
  rw [readCov_of_pieces _ _ _ (G := fHb)]
  · exact colBlk_emb (n := 10) (W := 512) (by norm_num) fHb 7 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab7 : kernelRun.sl.v1285 c fHws = colBlk (n := 10) (W := 512) (by norm_num) fHws 7 := by
  unfold kernelRun.sl.v1285
  rw [readCov_of_pieces _ _ _ (G := fHws)]
  · exact colBlk_emb (n := 10) (W := 512) (by norm_num) fHws 7 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab8 : kernelRun.sl.v1308 c fHw = colBlk (n := 10) (W := 512) (by norm_num) fHw 8 := by
  unfold kernelRun.sl.v1308
  rw [readCov_of_pieces _ _ _ (G := fHw)]
  · exact colBlk_emb (n := 10) (W := 512) (by norm_num) fHw 8 (by rfl) _
  · repeat refine List.forall_mem_cons.mpr ⟨fun _ => rfl, ?_⟩
    exact fun _ h => absurd h List.not_mem_nil
  · exact View.cover_of_tiledL _ S2560x512.size (by sl_kernel_rfl)
theorem b_slab8 : kernelRun.sl.v1311 c fHb = colBlk (n := 10) (W := 512) (by norm_num) fHb 8 := by
  unfold kernelRun.sl.v1311
  rw [readCov_of_pieces _ _ _ (G := fHb)]
  · exact colBlk_emb (n := 10) (W := 512) (by norm_num) fHb 8 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab8 : kernelRun.sl.v1316 c fHws = colBlk (n := 10) (W := 512) (by norm_num) fHws 8 := by
  unfold kernelRun.sl.v1316
  rw [readCov_of_pieces _ _ _ (G := fHws)]
  · exact colBlk_emb (n := 10) (W := 512) (by norm_num) fHws 8 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab9 : kernelRun.sl.v1339 c fHw = colBlk (n := 10) (W := 512) (by norm_num) fHw 9 := by
  unfold kernelRun.sl.v1339
  rw [readCov_of_pieces _ _ _ (G := fHw)]
  · exact colBlk_emb (n := 10) (W := 512) (by norm_num) fHw 9 (by rfl) _
  · repeat refine List.forall_mem_cons.mpr ⟨fun _ => rfl, ?_⟩
    exact fun _ h => absurd h List.not_mem_nil
  · exact View.cover_of_tiledL _ S2560x512.size (by sl_kernel_rfl)
theorem b_slab9 : kernelRun.sl.v1342 c fHb = colBlk (n := 10) (W := 512) (by norm_num) fHb 9 := by
  unfold kernelRun.sl.v1342
  rw [readCov_of_pieces _ _ _ (G := fHb)]
  · exact colBlk_emb (n := 10) (W := 512) (by norm_num) fHb 9 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab9 : kernelRun.sl.v1347 c fHws = colBlk (n := 10) (W := 512) (by norm_num) fHws 9 := by
  unfold kernelRun.sl.v1347
  rw [readCov_of_pieces _ _ _ (G := fHws)]
  · exact colBlk_emb (n := 10) (W := 512) (by norm_num) fHws 9 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem y_slab0 : k0_pay87 (kernelRun.sl.r_50 c fHx fHw) (kernelRun.sl.v1042 c fHx fHa) (kernelRun.sl.v1043 c fHb) (kernelRun.sl.v1045 c fHx) (kernelRun.sl.v1048 c fHws)
    = slab (codesAll fHx) (colBlk (n := 10) (W := 512) (by norm_num) fHw 0) (tAll fHx fHa) (colBlk (n := 10) (W := 512) (by norm_num) fHb 0)
        (scaleCol fHx) (colBlk (n := 10) (W := 512) (by norm_num) fHws 0) := by
  rw [← codes_whole c fHx, ← t_whole c fHx fHa, ← scale_whole c fHx, ← w_slab0 c fHw, ← b_slab0 c fHb, ← ws_slab0 c fHws]; rfl
theorem y_slab1 : k0_pay89 (kernelRun.sl.r_51 c fHx fHw) (kernelRun.sl.v1042 c fHx fHa) (kernelRun.sl.v1094 c fHb) (kernelRun.sl.v1045 c fHx) (kernelRun.sl.v1099 c fHws)
    = slab (codesAll fHx) (colBlk (n := 10) (W := 512) (by norm_num) fHw 1) (tAll fHx fHa) (colBlk (n := 10) (W := 512) (by norm_num) fHb 1)
        (scaleCol fHx) (colBlk (n := 10) (W := 512) (by norm_num) fHws 1) := by
  rw [← codes_whole c fHx, ← t_whole c fHx fHa, ← scale_whole c fHx, ← w_slab1 c fHw, ← b_slab1 c fHb, ← ws_slab1 c fHws]; rfl
theorem y_slab2 : k0_pay90 (kernelRun.sl.v1039 c fHx) (kernelRun.sl.v1122 c fHw) (kernelRun.sl.v1042 c fHx fHa) (kernelRun.sl.v1125 c fHb) (kernelRun.sl.v1045 c fHx) (kernelRun.sl.v1130 c fHws)
    = slab (codesAll fHx) (colBlk (n := 10) (W := 512) (by norm_num) fHw 2) (tAll fHx fHa) (colBlk (n := 10) (W := 512) (by norm_num) fHb 2)
        (scaleCol fHx) (colBlk (n := 10) (W := 512) (by norm_num) fHws 2) := by
  rw [← codes_whole c fHx, ← t_whole c fHx fHa, ← scale_whole c fHx, ← w_slab2 c fHw, ← b_slab2 c fHb, ← ws_slab2 c fHws]; rfl
theorem y_slab3 : k0_pay91 (kernelRun.sl.v1039 c fHx) (kernelRun.sl.v1153 c fHw) (kernelRun.sl.v1042 c fHx fHa) (kernelRun.sl.v1156 c fHb) (kernelRun.sl.v1045 c fHx) (kernelRun.sl.v1161 c fHws)
    = slab (codesAll fHx) (colBlk (n := 10) (W := 512) (by norm_num) fHw 3) (tAll fHx fHa) (colBlk (n := 10) (W := 512) (by norm_num) fHb 3)
        (scaleCol fHx) (colBlk (n := 10) (W := 512) (by norm_num) fHws 3) := by
  rw [← codes_whole c fHx, ← t_whole c fHx fHa, ← scale_whole c fHx, ← w_slab3 c fHw, ← b_slab3 c fHb, ← ws_slab3 c fHws]; rfl
theorem y_slab4 : k0_pay92 (kernelRun.sl.v1039 c fHx) (kernelRun.sl.v1184 c fHw) (kernelRun.sl.v1042 c fHx fHa) (kernelRun.sl.v1187 c fHb) (kernelRun.sl.v1045 c fHx) (kernelRun.sl.v1192 c fHws)
    = slab (codesAll fHx) (colBlk (n := 10) (W := 512) (by norm_num) fHw 4) (tAll fHx fHa) (colBlk (n := 10) (W := 512) (by norm_num) fHb 4)
        (scaleCol fHx) (colBlk (n := 10) (W := 512) (by norm_num) fHws 4) := by
  rw [← codes_whole c fHx, ← t_whole c fHx fHa, ← scale_whole c fHx, ← w_slab4 c fHw, ← b_slab4 c fHb, ← ws_slab4 c fHws]; rfl
theorem y_slab5 : k0_pay94 (kernelRun.sl.r_52 c fHx fHw fHws fHa fHb)
    = slab (codesAll fHx) (colBlk (n := 10) (W := 512) (by norm_num) fHw 5) (tAll fHx fHa) (colBlk (n := 10) (W := 512) (by norm_num) fHb 5)
        (scaleCol fHx) (colBlk (n := 10) (W := 512) (by norm_num) fHws 5) := by
  rw [← codes_whole c fHx, ← t_whole c fHx fHa, ← scale_whole c fHx, ← w_slab5 c fHw, ← b_slab5 c fHb, ← ws_slab5 c fHws]; rfl
theorem y_slab6 : k0_pay98 (kernelRun.sl.r_53 c fHx fHa fHb) (kernelRun.sl.r_54 c fHx fHw) (kernelRun.sl.r_55 c fHws)
    = slab (codesAll fHx) (colBlk (n := 10) (W := 512) (by norm_num) fHw 6) (tAll fHx fHa) (colBlk (n := 10) (W := 512) (by norm_num) fHb 6)
        (scaleCol fHx) (colBlk (n := 10) (W := 512) (by norm_num) fHws 6) := by
  rw [← codes_whole c fHx, ← t_whole c fHx fHa, ← scale_whole c fHx, ← w_slab6 c fHw, ← b_slab6 c fHb, ← ws_slab6 c fHws]; rfl
theorem y_slab7 : k0_pay101 (kernelRun.sl.r_56 c fHx fHw) (kernelRun.sl.r_57 c fHx fHa fHb) (kernelRun.sl.v1045 c fHx) (kernelRun.sl.v1285 c fHws)
    = slab (codesAll fHx) (colBlk (n := 10) (W := 512) (by norm_num) fHw 7) (tAll fHx fHa) (colBlk (n := 10) (W := 512) (by norm_num) fHb 7)
        (scaleCol fHx) (colBlk (n := 10) (W := 512) (by norm_num) fHws 7) := by
  rw [← codes_whole c fHx, ← t_whole c fHx fHa, ← scale_whole c fHx, ← w_slab7 c fHw, ← b_slab7 c fHb, ← ws_slab7 c fHws]; rfl
theorem y_slab8 : k0_pay102 (kernelRun.sl.v1039 c fHx) (kernelRun.sl.v1308 c fHw) kernelRun.sl.cst_825 (kernelRun.sl.v1042 c fHx fHa) (kernelRun.sl.v1311 c fHb) (kernelRun.sl.v1045 c fHx) (kernelRun.sl.v1316 c fHws)
    = slab (codesAll fHx) (colBlk (n := 10) (W := 512) (by norm_num) fHw 8) (tAll fHx fHa) (colBlk (n := 10) (W := 512) (by norm_num) fHb 8)
        (scaleCol fHx) (colBlk (n := 10) (W := 512) (by norm_num) fHws 8) := by
  rw [← codes_whole c fHx, ← t_whole c fHx fHa, ← scale_whole c fHx, ← w_slab8 c fHw, ← b_slab8 c fHb, ← ws_slab8 c fHws]; rfl
theorem y_slab9 : k0_pay103 (kernelRun.sl.v1039 c fHx) (kernelRun.sl.v1339 c fHw) (kernelRun.sl.v1042 c fHx fHa) (kernelRun.sl.v1342 c fHb) (kernelRun.sl.v1045 c fHx) (kernelRun.sl.v1347 c fHws)
    = slab (codesAll fHx) (colBlk (n := 10) (W := 512) (by norm_num) fHw 9) (tAll fHx fHa) (colBlk (n := 10) (W := 512) (by norm_num) fHb 9)
        (scaleCol fHx) (colBlk (n := 10) (W := 512) (by norm_num) fHws 9) := by
  rw [← codes_whole c fHx, ← t_whole c fHx fHa, ← scale_whole c fHx, ← w_slab9 c fHw, ← b_slab9 c fHb, ← ws_slab9 c fHws]; rfl
theorem y_pieces1 : ∀ p ∈ kernelRun.sl.Sy_1 c fHx fHw fHws fHa fHb, ∀ x : p.1.shape.Idx, p.2 x = yAll fHx fHw fHws fHa fHb (p.1.emb x) := by
  unfold kernelRun.sl.Sy_1
  exact List.forall_mem_cons.mpr ⟨fun x => piece_cols (by norm_num) (by norm_num) _ 0 (by rfl) inb_S384x5120_S384x512_0_0 _ (y_slab0 c fHx fHw fHws fHa fHb) x,
    (fun _ h => absurd h List.not_mem_nil)⟩
theorem y_pieces2 : ∀ p ∈ kernelRun.sl.Sy_2 c fHx fHw fHws fHa fHb, ∀ x : p.1.shape.Idx, p.2 x = yAll fHx fHw fHws fHa fHb (p.1.emb x) := by
  unfold kernelRun.sl.Sy_2
  exact List.forall_mem_cons.mpr ⟨fun x => piece_cols (by norm_num) (by norm_num) _ 1 (by rfl) inb_S384x5120_S384x512_0_512 _ (y_slab1 c fHx fHw fHws fHa fHb) x,
    (y_pieces1 c fHx fHw fHws fHa fHb)⟩
theorem y_pieces3 : ∀ p ∈ kernelRun.sl.Sy_3 c fHx fHw fHws fHa fHb, ∀ x : p.1.shape.Idx, p.2 x = yAll fHx fHw fHws fHa fHb (p.1.emb x) := by
  unfold kernelRun.sl.Sy_3
  exact List.forall_mem_cons.mpr ⟨fun x => piece_cols (by norm_num) (by norm_num) _ 2 (by rfl) inb_S384x5120_S384x512_0_1024 _ (y_slab2 c fHx fHw fHws fHa fHb) x,
    (y_pieces2 c fHx fHw fHws fHa fHb)⟩
theorem y_pieces4 : ∀ p ∈ kernelRun.sl.Sy_4 c fHx fHw fHws fHa fHb, ∀ x : p.1.shape.Idx, p.2 x = yAll fHx fHw fHws fHa fHb (p.1.emb x) := by
  unfold kernelRun.sl.Sy_4
  exact List.forall_mem_cons.mpr ⟨fun x => piece_cols (by norm_num) (by norm_num) _ 3 (by rfl) inb_S384x5120_S384x512_0_1536 _ (y_slab3 c fHx fHw fHws fHa fHb) x,
    (y_pieces3 c fHx fHw fHws fHa fHb)⟩
theorem y_pieces5 : ∀ p ∈ kernelRun.sl.Sy_5 c fHx fHw fHws fHa fHb, ∀ x : p.1.shape.Idx, p.2 x = yAll fHx fHw fHws fHa fHb (p.1.emb x) := by
  unfold kernelRun.sl.Sy_5
  exact List.forall_mem_cons.mpr ⟨fun x => piece_cols (by norm_num) (by norm_num) _ 4 (by rfl) inb_S384x5120_S384x512_0_2048 _ (y_slab4 c fHx fHw fHws fHa fHb) x,
    (y_pieces4 c fHx fHw fHws fHa fHb)⟩
theorem y_pieces6 : ∀ p ∈ kernelRun.sl.Sy_6 c fHx fHw fHws fHa fHb, ∀ x : p.1.shape.Idx, p.2 x = yAll fHx fHw fHws fHa fHb (p.1.emb x) := by
  unfold kernelRun.sl.Sy_6
  exact List.forall_mem_cons.mpr ⟨fun x => piece_cols (by norm_num) (by norm_num) _ 5 (by rfl) inb_S384x5120_S384x512_0_2560 _ (y_slab5 c fHx fHw fHws fHa fHb) x,
    (y_pieces5 c fHx fHw fHws fHa fHb)⟩
theorem y_pieces7 : ∀ p ∈ kernelRun.sl.Sy_7 c fHx fHw fHws fHa fHb, ∀ x : p.1.shape.Idx, p.2 x = yAll fHx fHw fHws fHa fHb (p.1.emb x) := by
  unfold kernelRun.sl.Sy_7
  exact List.forall_mem_cons.mpr ⟨fun x => piece_cols (by norm_num) (by norm_num) _ 6 (by rfl) inb_S384x5120_S384x512_0_3072 _ (y_slab6 c fHx fHw fHws fHa fHb) x,
    (y_pieces6 c fHx fHw fHws fHa fHb)⟩
theorem y_pieces8 : ∀ p ∈ kernelRun.sl.Sy_8 c fHx fHw fHws fHa fHb, ∀ x : p.1.shape.Idx, p.2 x = yAll fHx fHw fHws fHa fHb (p.1.emb x) := by
  unfold kernelRun.sl.Sy_8
  exact List.forall_mem_cons.mpr ⟨fun x => piece_cols (by norm_num) (by norm_num) _ 7 (by rfl) inb_S384x5120_S384x512_0_3584 _ (y_slab7 c fHx fHw fHws fHa fHb) x,
    (y_pieces7 c fHx fHw fHws fHa fHb)⟩
theorem y_pieces9 : ∀ p ∈ kernelRun.sl.Sy_9 c fHx fHw fHws fHa fHb, ∀ x : p.1.shape.Idx, p.2 x = yAll fHx fHw fHws fHa fHb (p.1.emb x) := by
  unfold kernelRun.sl.Sy_9
  exact List.forall_mem_cons.mpr ⟨fun x => piece_cols (by norm_num) (by norm_num) _ 8 (by rfl) inb_S384x5120_S384x512_0_4096 _ (y_slab8 c fHx fHw fHws fHa fHb) x,
    (y_pieces8 c fHx fHw fHws fHa fHb)⟩
theorem y_pieces10 : ∀ p ∈ kernelRun.sl.Sy_10 c fHx fHw fHws fHa fHb, ∀ x : p.1.shape.Idx, p.2 x = yAll fHx fHw fHws fHa fHb (p.1.emb x) := by
  unfold kernelRun.sl.Sy_10
  exact List.forall_mem_cons.mpr ⟨fun x => piece_cols (by norm_num) (by norm_num) _ 9 (by rfl) inb_S384x5120_S384x512_0_4608 _ (y_slab9 c fHx fHw fHws fHa fHb) x,
    (y_pieces9 c fHx fHw fHws fHa fHb)⟩
end Cert.Kernel.Hand
end
-- ==== Proof.Kernel.Out.lean ====
/-
  Hand-written. What the body's run leaves in the three results, in closed form: `y`, the codes and the row of scales of
  `Parts`, whatever the results and the scratch buffers held at the start.
-/
module
public import proofs.«01_k».proof.Proof.Kernel.Lists
@[expose] public section
set_option maxRecDepth 16384
noncomputable section
namespace Cert.Kernel.Hand
open Cert.Kernel Cert.Kernel.Gen
open Idealize.ShloMosaic Idealize.ShloMosaic.TcCoe Idealize.ShloMosaic.Tactic
variable {F : FTy → Type} [FloatOps F]

/-- A rectangle holds the places it puts its indices at. -/
theorem emb_mem_rect {s : Shape} (r : Rect s) (x : r.shape.Idx) : r.emb x ∈ r.set := by
  rw [← Rect.map_emb_univ]; exact Finset.mem_map_of_mem _ (Finset.mem_univ _)

/-- A list of pieces agrees with a tensor when its first piece and the rest do. -/
theorem pieces_cons {s : Shape} {e : EltTy} {G : s.Idx → Elt F e} {r : Rect s} {w : r.shape.Idx → Elt F e}
    {L : List (View.Piece (Elt F) s e)} (h : ∀ x : r.shape.Idx, w x = G (r.emb x))
    (t : ∀ p ∈ L, ∀ x : p.1.shape.Idx, p.2 x = G (p.1.emb x)) :
    ∀ p ∈ (⟨r, w⟩ :: L : List (View.Piece (Elt F) s e)), ∀ x : p.1.shape.Idx, p.2 x = G (p.1.emb x) := by
  intro p hp
  rcases List.mem_cons.mp hp with rfl | hp
  · exact h
  · exact t p hp

variable (c : Dev nD)
  (fHx : Buf (Elt F) (View.loc (c.tc : Thread nD τ) (Memref.whole main_v0).view))
  (fHw : Buf (Elt F) (View.loc (c.tc : Thread nD τ) (Memref.whole main_arg1).view))
  (fHws : Buf (Elt F) (View.loc (c.tc : Thread nD τ) (Memref.whole main_v1).view))
  (fHa : Buf (Elt F) (View.loc (c.tc : Thread nD τ) (Memref.whole main_v2).view))
  (fHb : Buf (Elt F) (View.loc (c.tc : Thread nD τ) (Memref.whole main_arg4).view))
  (fSy : Buf (Elt F) (View.loc (c.tc : Thread nD τ) (Memref.whole cc0_scratch5).view))
  (fSc : Buf (Elt F) (View.loc (c.tc : Thread nD τ) (Memref.whole cc0_scratch6).view))
  (fSrow : Buf (Elt F) (View.loc (c.tc : Thread nD τ) (Memref.whole cc0_scratch8).view))

/-! ## The three results -/

theorem y_out0 (x : S384x512.Idx) : kernelRun.sl.dma73 c fHx fHw fHws fHa fHb fSy x
    = yAll fHx fHw fHws fHa fHb ((Rect.unit (s := S384x5120) ![0, 0] S384x512.size inb_S384x5120_S384x512_0_0).emb x) := by
  unfold kernelRun.sl.dma73
  refine View.read_writes_apply_of_pieces (Memref.whole cc0_scratch5).view fSy (yAll fHx fHw fHws fHa fHb) _ (y_pieces2 c fHx fHw fHws fHa fHb)
    ((Rect.unit (s := S384x5120) ![0, 0] S384x512.size inb_S384x5120_S384x512_0_0).emb x) ?_
  unfold kernelRun.sl.Sy_2
  unfold kernelRun.sl.Sy_1
  exact ⟨_, List.mem_cons_of_mem _ List.mem_cons_self, emb_mem_rect (Rect.unit (s := S384x5120) ![0, 0] S384x512.size inb_S384x5120_S384x512_0_0) x⟩
theorem y_out1 (x : S384x512.Idx) : kernelRun.sl.dma81 c fHx fHw fHws fHa fHb fSy x
    = yAll fHx fHw fHws fHa fHb ((Rect.unit (s := S384x5120) ![0, 512] S384x512.size inb_S384x5120_S384x512_0_512).emb x) := by
  unfold kernelRun.sl.dma81
  refine View.read_writes_apply_of_pieces (Memref.whole cc0_scratch5).view fSy (yAll fHx fHw fHws fHa fHb) _ (y_pieces3 c fHx fHw fHws fHa fHb)
    ((Rect.unit (s := S384x5120) ![0, 512] S384x512.size inb_S384x5120_S384x512_0_512).emb x) ?_
  unfold kernelRun.sl.Sy_3
  unfold kernelRun.sl.Sy_2
  exact ⟨_, List.mem_cons_of_mem _ List.mem_cons_self, emb_mem_rect (Rect.unit (s := S384x5120) ![0, 512] S384x512.size inb_S384x5120_S384x512_0_512) x⟩
theorem y_out2 (x : S384x512.Idx) : kernelRun.sl.dma89 c fHx fHw fHws fHa fHb fSy x
    = yAll fHx fHw fHws fHa fHb ((Rect.unit (s := S384x5120) ![0, 1024] S384x512.size inb_S384x5120_S384x512_0_1024).emb x) := by
  unfold kernelRun.sl.dma89
  refine View.read_writes_apply_of_pieces (Memref.whole cc0_scratch5).view fSy (yAll fHx fHw fHws fHa fHb) _ (y_pieces4 c fHx fHw fHws fHa fHb)
    ((Rect.unit (s := S384x5120) ![0, 1024] S384x512.size inb_S384x5120_S384x512_0_1024).emb x) ?_
  unfold kernelRun.sl.Sy_4
  unfold kernelRun.sl.Sy_3
  exact ⟨_, List.mem_cons_of_mem _ List.mem_cons_self, emb_mem_rect (Rect.unit (s := S384x5120) ![0, 1024] S384x512.size inb_S384x5120_S384x512_0_1024) x⟩
theorem y_out3 (x : S384x512.Idx) : kernelRun.sl.dma97 c fHx fHw fHws fHa fHb fSy x
    = yAll fHx fHw fHws fHa fHb ((Rect.unit (s := S384x5120) ![0, 1536] S384x512.size inb_S384x5120_S384x512_0_1536).emb x) := by
  unfold kernelRun.sl.dma97
  refine View.read_writes_apply_of_pieces (Memref.whole cc0_scratch5).view fSy (yAll fHx fHw fHws fHa fHb) _ (y_pieces5 c fHx fHw fHws fHa fHb)
    ((Rect.unit (s := S384x5120) ![0, 1536] S384x512.size inb_S384x5120_S384x512_0_1536).emb x) ?_
  unfold kernelRun.sl.Sy_5
  unfold kernelRun.sl.Sy_4
  exact ⟨_, List.mem_cons_of_mem _ List.mem_cons_self, emb_mem_rect (Rect.unit (s := S384x5120) ![0, 1536] S384x512.size inb_S384x5120_S384x512_0_1536) x⟩
theorem y_out4 (x : S384x512.Idx) : kernelRun.sl.dma105 c fHx fHw fHws fHa fHb fSy x
    = yAll fHx fHw fHws fHa fHb ((Rect.unit (s := S384x5120) ![0, 2048] S384x512.size inb_S384x5120_S384x512_0_2048).emb x) := by
  unfold kernelRun.sl.dma105
  refine View.read_writes_apply_of_pieces (Memref.whole cc0_scratch5).view fSy (yAll fHx fHw fHws fHa fHb) _ (y_pieces6 c fHx fHw fHws fHa fHb)
    ((Rect.unit (s := S384x5120) ![0, 2048] S384x512.size inb_S384x5120_S384x512_0_2048).emb x) ?_
  unfold kernelRun.sl.Sy_6
  unfold kernelRun.sl.Sy_5
  exact ⟨_, List.mem_cons_of_mem _ List.mem_cons_self, emb_mem_rect (Rect.unit (s := S384x5120) ![0, 2048] S384x512.size inb_S384x5120_S384x512_0_2048) x⟩
theorem y_out5 (x : S384x512.Idx) : kernelRun.sl.dma113 c fHx fHw fHws fHa fHb fSy x
    = yAll fHx fHw fHws fHa fHb ((Rect.unit (s := S384x5120) ![0, 2560] S384x512.size inb_S384x5120_S384x512_0_2560).emb x) := by
  unfold kernelRun.sl.dma113
  refine View.read_writes_apply_of_pieces (Memref.whole cc0_scratch5).view fSy (yAll fHx fHw fHws fHa fHb) _ (y_pieces7 c fHx fHw fHws fHa fHb)
    ((Rect.unit (s := S384x5120) ![0, 2560] S384x512.size inb_S384x5120_S384x512_0_2560).emb x) ?_
  unfold kernelRun.sl.Sy_7
  unfold kernelRun.sl.Sy_6
  exact ⟨_, List.mem_cons_of_mem _ List.mem_cons_self, emb_mem_rect (Rect.unit (s := S384x5120) ![0, 2560] S384x512.size inb_S384x5120_S384x512_0_2560) x⟩
theorem y_out6 (x : S384x512.Idx) : kernelRun.sl.dma121 c fHx fHw fHws fHa fHb fSy x
    = yAll fHx fHw fHws fHa fHb ((Rect.unit (s := S384x5120) ![0, 3072] S384x512.size inb_S384x5120_S384x512_0_3072).emb x) := by
  unfold kernelRun.sl.dma121
  refine View.read_writes_apply_of_pieces (Memref.whole cc0_scratch5).view fSy (yAll fHx fHw fHws fHa fHb) _ (y_pieces8 c fHx fHw fHws fHa fHb)
    ((Rect.unit (s := S384x5120) ![0, 3072] S384x512.size inb_S384x5120_S384x512_0_3072).emb x) ?_
  unfold kernelRun.sl.Sy_8
  unfold kernelRun.sl.Sy_7
  exact ⟨_, List.mem_cons_of_mem _ List.mem_cons_self, emb_mem_rect (Rect.unit (s := S384x5120) ![0, 3072] S384x512.size inb_S384x5120_S384x512_0_3072) x⟩
theorem y_out7 (x : S384x512.Idx) : kernelRun.sl.dma129 c fHx fHw fHws fHa fHb fSy x
    = yAll fHx fHw fHws fHa fHb ((Rect.unit (s := S384x5120) ![0, 3584] S384x512.size inb_S384x5120_S384x512_0_3584).emb x) := by
  unfold kernelRun.sl.dma129
  refine View.read_writes_apply_of_pieces (Memref.whole cc0_scratch5).view fSy (yAll fHx fHw fHws fHa fHb) _ (y_pieces9 c fHx fHw fHws fHa fHb)
    ((Rect.unit (s := S384x5120) ![0, 3584] S384x512.size inb_S384x5120_S384x512_0_3584).emb x) ?_
  unfold kernelRun.sl.Sy_9
  unfold kernelRun.sl.Sy_8
  exact ⟨_, List.mem_cons_of_mem _ List.mem_cons_self, emb_mem_rect (Rect.unit (s := S384x5120) ![0, 3584] S384x512.size inb_S384x5120_S384x512_0_3584) x⟩
theorem y_out8 (x : S384x512.Idx) : kernelRun.sl.dma137 c fHx fHw fHws fHa fHb fSy x
    = yAll fHx fHw fHws fHa fHb ((Rect.unit (s := S384x5120) ![0, 4096] S384x512.size inb_S384x5120_S384x512_0_4096).emb x) := by
  unfold kernelRun.sl.dma137
  refine View.read_writes_apply_of_pieces (Memref.whole cc0_scratch5).view fSy (yAll fHx fHw fHws fHa fHb) _ (y_pieces10 c fHx fHw fHws fHa fHb)
    ((Rect.unit (s := S384x5120) ![0, 4096] S384x512.size inb_S384x5120_S384x512_0_4096).emb x) ?_
  unfold kernelRun.sl.Sy_10
  unfold kernelRun.sl.Sy_9
  exact ⟨_, List.mem_cons_of_mem _ List.mem_cons_self, emb_mem_rect (Rect.unit (s := S384x5120) ![0, 4096] S384x512.size inb_S384x5120_S384x512_0_4096) x⟩
theorem y_out9 (x : S384x512.Idx) : kernelRun.sl.dma137_1 c fHx fHw fHws fHa fHb fSy x
    = yAll fHx fHw fHws fHa fHb ((Rect.unit (s := S384x5120) ![0, 4608] S384x512.size inb_S384x5120_S384x512_0_4608).emb x) := by
  unfold kernelRun.sl.dma137_1
  refine View.read_writes_apply_of_pieces (Memref.whole cc0_scratch5).view fSy (yAll fHx fHw fHws fHa fHb) _ (y_pieces10 c fHx fHw fHws fHa fHb)
    ((Rect.unit (s := S384x5120) ![0, 4608] S384x512.size inb_S384x5120_S384x512_0_4608).emb x) ?_
  unfold kernelRun.sl.Sy_10
  exact ⟨_, List.mem_cons_self, emb_mem_rect (Rect.unit (s := S384x5120) ![0, 4608] S384x512.size inb_S384x5120_S384x512_0_4608) x⟩
theorem codes_out0 (x : S64x5120.Idx) : kernelRun.sl.dma65 c fHx fSc x
    = codesAll fHx ((Rect.unit (s := S384x5120) ![0, 0] S64x5120.size inb_S384x5120_S64x5120_0_0).emb x) := by
  unfold kernelRun.sl.dma65
  exact View.read_writes_apply_of_pieces (Memref.whole cc0_scratch6).view fSc (codesAll fHx) _ (codes_pieces6 c fHx) _ (codes_cover c fHx _)
theorem codes_out1 (x : S64x5120.Idx) : kernelRun.sl.dma65_1 c fHx fSc x
    = codesAll fHx ((Rect.unit (s := S384x5120) ![64, 0] S64x5120.size inb_S384x5120_S64x5120_64_0).emb x) := by
  unfold kernelRun.sl.dma65_1
  exact View.read_writes_apply_of_pieces (Memref.whole cc0_scratch6).view fSc (codesAll fHx) _ (codes_pieces6 c fHx) _ (codes_cover c fHx _)
theorem codes_out2 (x : S64x5120.Idx) : kernelRun.sl.dma65_2 c fHx fSc x
    = codesAll fHx ((Rect.unit (s := S384x5120) ![128, 0] S64x5120.size inb_S384x5120_S64x5120_128_0).emb x) := by
  unfold kernelRun.sl.dma65_2
  exact View.read_writes_apply_of_pieces (Memref.whole cc0_scratch6).view fSc (codesAll fHx) _ (codes_pieces6 c fHx) _ (codes_cover c fHx _)
theorem codes_out3 (x : S64x5120.Idx) : kernelRun.sl.dma65_3 c fHx fSc x
    = codesAll fHx ((Rect.unit (s := S384x5120) ![192, 0] S64x5120.size inb_S384x5120_S64x5120_192_0).emb x) := by
  unfold kernelRun.sl.dma65_3
  exact View.read_writes_apply_of_pieces (Memref.whole cc0_scratch6).view fSc (codesAll fHx) _ (codes_pieces6 c fHx) _ (codes_cover c fHx _)
theorem codes_out4 (x : S64x5120.Idx) : kernelRun.sl.dma65_4 c fHx fSc x
    = codesAll fHx ((Rect.unit (s := S384x5120) ![256, 0] S64x5120.size inb_S384x5120_S64x5120_256_0).emb x) := by
  unfold kernelRun.sl.dma65_4
  exact View.read_writes_apply_of_pieces (Memref.whole cc0_scratch6).view fSc (codesAll fHx) _ (codes_pieces6 c fHx) _ (codes_cover c fHx _)
theorem codes_out5 (x : S64x5120.Idx) : kernelRun.sl.dma65_5 c fHx fSc x
    = codesAll fHx ((Rect.unit (s := S384x5120) ![320, 0] S64x5120.size inb_S384x5120_S64x5120_320_0).emb x) := by
  unfold kernelRun.sl.dma65_5
  exact View.read_writes_apply_of_pieces (Memref.whole cc0_scratch6).view fSc (codesAll fHx) _ (codes_pieces6 c fHx) _ (codes_cover c fHx _)
theorem scale_out (x : S1x384.Idx) : kernelRun.sl.dma65_6 c fHx fSrow x = scaleRow fHx x := by
  unfold kernelRun.sl.dma65_6
  exact View.read_writes_apply_of_pieces (Memref.whole cc0_scratch8).view fSrow (scaleRow fHx) _ (row_pieces c fHx) _ (row_cover c fHx _)

variable (fHy : Buf (Elt F) (View.loc (c.tc : Thread nD τ) (Memref.whole main_v3_0).view))
  (fHc : Buf (Elt F) (View.loc (c.tc : Thread nD τ) (Memref.whole main_v3_1).view))
  (fHs : Buf (Elt F) (View.loc (c.tc : Thread nD τ) (Memref.whole main_v3_2).view))

/-- The run's list of pieces for `y`. -/
theorem y_list : (kernelRun c fHx fHw fHws fHa fHb).1 fSy = [
    ⟨Rect.unit ![0, 4608] S384x512.size inb_S384x5120_S384x512_0_4608, kernelRun.sl.dma137_1 c fHx fHw fHws fHa fHb fSy⟩,
    ⟨Rect.unit ![0, 4096] S384x512.size inb_S384x5120_S384x512_0_4096, kernelRun.sl.dma137 c fHx fHw fHws fHa fHb fSy⟩,
    ⟨Rect.unit ![0, 3584] S384x512.size inb_S384x5120_S384x512_0_3584, kernelRun.sl.dma129 c fHx fHw fHws fHa fHb fSy⟩,
    ⟨Rect.unit ![0, 3072] S384x512.size inb_S384x5120_S384x512_0_3072, kernelRun.sl.dma121 c fHx fHw fHws fHa fHb fSy⟩,
    ⟨Rect.unit ![0, 2560] S384x512.size inb_S384x5120_S384x512_0_2560, kernelRun.sl.dma113 c fHx fHw fHws fHa fHb fSy⟩,
    ⟨Rect.unit ![0, 2048] S384x512.size inb_S384x5120_S384x512_0_2048, kernelRun.sl.dma105 c fHx fHw fHws fHa fHb fSy⟩,
    ⟨Rect.unit ![0, 1536] S384x512.size inb_S384x5120_S384x512_0_1536, kernelRun.sl.dma97 c fHx fHw fHws fHa fHb fSy⟩,
    ⟨Rect.unit ![0, 1024] S384x512.size inb_S384x5120_S384x512_0_1024, kernelRun.sl.dma89 c fHx fHw fHws fHa fHb fSy⟩,
    ⟨Rect.unit ![0, 512] S384x512.size inb_S384x5120_S384x512_0_512, kernelRun.sl.dma81 c fHx fHw fHws fHa fHb fSy⟩,
    ⟨Rect.unit ![0, 0] S384x512.size inb_S384x5120_S384x512_0_0, kernelRun.sl.dma73 c fHx fHw fHws fHa fHb fSy⟩] := by
  unfold kernelRun; rfl
/-- The run's list of pieces for the codes. -/
theorem codes_list : (kernelRun c fHx fHw fHws fHa fHb).2.1 fSc = [
    ⟨Rect.unit ![320, 0] S64x5120.size inb_S384x5120_S64x5120_320_0, kernelRun.sl.dma65_5 c fHx fSc⟩,
    ⟨Rect.unit ![256, 0] S64x5120.size inb_S384x5120_S64x5120_256_0, kernelRun.sl.dma65_4 c fHx fSc⟩,
    ⟨Rect.unit ![192, 0] S64x5120.size inb_S384x5120_S64x5120_192_0, kernelRun.sl.dma65_3 c fHx fSc⟩,
    ⟨Rect.unit ![128, 0] S64x5120.size inb_S384x5120_S64x5120_128_0, kernelRun.sl.dma65_2 c fHx fSc⟩,
    ⟨Rect.unit ![64, 0] S64x5120.size inb_S384x5120_S64x5120_64_0, kernelRun.sl.dma65_1 c fHx fSc⟩,
    ⟨Rect.unit ![0, 0] S64x5120.size inb_S384x5120_S64x5120_0_0, kernelRun.sl.dma65 c fHx fSc⟩] := by
  unfold kernelRun; rfl
/-- The run's list of pieces for the scales. -/
theorem scale_list : (kernelRun c fHx fHw fHws fHa fHb).2.2.1 fSrow = [⟨Rect.whole S1x384, kernelRun.sl.dma65_6 c fHx fSrow⟩] := by
  unfold kernelRun; rfl
attribute [local irreducible] yAll codesAll scaleRow

/-- The run leaves `y` at `yAll`. -/
theorem y_result : (Memref.whole main_v3_0).view.writes (Elt F) fHy ((kernelRun c fHx fHw fHws fHa fHb).1 fSy) = yAll fHx fHw fHws fHa fHb := by
  rw [y_list]
  funext i
  refine Eq.trans (congrFun (View.read_whole main_v3_0 _).symm i) ?_
  refine View.read_writes_apply_of_pieces (Memref.whole main_v3_0).view fHy (yAll fHx fHw fHws fHa fHb) _ ?_ i ?_
  · exact pieces_cons (y_out9 c fHx fHw fHws fHa fHb fSy) (pieces_cons (y_out8 c fHx fHw fHws fHa fHb fSy) (pieces_cons (y_out7 c fHx fHw fHws fHa fHb fSy) (pieces_cons (y_out6 c fHx fHw fHws fHa fHb fSy) (pieces_cons (y_out5 c fHx fHw fHws fHa fHb fSy) (pieces_cons (y_out4 c fHx fHw fHws fHa fHb fSy) (pieces_cons (y_out3 c fHx fHw fHws fHa fHb fSy) (pieces_cons (y_out2 c fHx fHw fHws fHa fHb fSy) (pieces_cons (y_out1 c fHx fHw fHws fHa fHb fSy) (pieces_cons (y_out0 c fHx fHw fHws fHa fHb fSy) (
      fun _ h => absurd h List.not_mem_nil))))))))))
  · exact View.cover_of_tiledL (s := S384x5120) _ S384x512.size (by sl_kernel_rfl) i
/-- The run leaves the codes at `codesAll`. -/
theorem codes_result : (Memref.whole main_v3_1).view.writes (Elt F) fHc ((kernelRun c fHx fHw fHws fHa fHb).2.1 fSc) = codesAll fHx := by
  rw [codes_list]
  funext i
  refine Eq.trans (congrFun (View.read_whole main_v3_1 _).symm i) ?_
  refine View.read_writes_apply_of_pieces (Memref.whole main_v3_1).view fHc (codesAll fHx) _ ?_ i ?_
  · exact pieces_cons (codes_out5 c fHx fSc) (pieces_cons (codes_out4 c fHx fSc) (pieces_cons (codes_out3 c fHx fSc) (pieces_cons (codes_out2 c fHx fSc) (pieces_cons (codes_out1 c fHx fSc) (pieces_cons (codes_out0 c fHx fSc) (
      fun _ h => absurd h List.not_mem_nil))))))
  · exact View.cover_of_tiledL (s := S384x5120) _ S64x5120.size (by sl_kernel_rfl) i
/-- The run leaves the scales at `scaleRow`. -/
theorem scale_result : (Memref.whole main_v3_2).view.writes (Elt F) fHs ((kernelRun c fHx fHw fHws fHa fHb).2.2.1 fSrow) = scaleRow fHx := by
  rw [scale_list]
  funext i
  refine Eq.trans (congrFun (View.read_whole main_v3_2 _).symm i) ?_
  refine View.read_writes_apply_of_pieces (Memref.whole main_v3_2).view fHs (scaleRow fHx) _ ?_ i ?_
  · refine pieces_cons (fun x => ?_) (fun _ h => absurd h List.not_mem_nil)
    refine (scale_out c fHx fSrow x).trans (congrArg (scaleRow fHx) ?_)
    exact (Rect.emb_whole_apply _ x).symm
  · exact View.cover_of_tiledL (s := S1x384) _ S1x384.size (by sl_kernel_rfl) i

end Cert.Kernel.Hand
end
-- ==== Proof.Kernel.Launch.lean ====
/-
  Hand-written. The launch: @main's host lines, the kernel call run by `kernelRun`, the host lines after it. Its theorem
  `run_values` says how the whole program ends: the argument arrays as they were, every semaphore counter at zero, and the
  three results at the reshapes of `Parts`'s `yAll`, `codesAll` and `scaleRow`.
-/
module
public import proofs.«01_k».proof.Proof.Kernel.Out
@[expose] public section
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## What the body may touch -/

/-- The unscoped buffers the body reads. -/
def H0 : Finset (Ref sig .tc) := {main_v0, main_arg1, main_v1, main_v2, main_arg4}
/-- The unscoped buffers the body writes: the kernel call's three results. -/
def R0 : Finset (Ref sig .tc) := {main_v3_0, main_v3_1, main_v3_2}
theorem H0_sub : H0 ⊆ Pipeline.restRefs sig cfg0.spec := by decide
theorem R0_sub : R0 ⊆ Pipeline.restRefs sig cfg0.spec \ H0 := by decide
/-- The body's own semaphores: the forty-six cells of its transfers. -/
abbrev osem0 : Fin 46 → SemLoc sig := fun j => SemLoc.dma j
theorem ownSemFacts0 : Pipeline.OwnSemFacts cfg0.spec osem0 := by decide

/-- What the body leaves: the three results in closed form, and nothing else changed. -/
def G (c : Dev nD) (b : Ref sig .tc) : Buf (Elt F) ((c : Thread nD τ).loc b) :=
  if h : b = main_v3_0 then h ▸ yAll (V m c main_v0) (V m c main_arg1) (V m c main_v1) (V m c main_v2) (V m c main_arg4)
  else if h : b = main_v3_1 then h ▸ codesAll (V m c main_v0)
  else if h : b = main_v3_2 then h ▸ scaleRow (V m c main_v0)
  else V m c b
theorem G_y (c : Dev nD) : G m c main_v3_0
    = yAll (V m c main_v0) (V m c main_arg1) (V m c main_v1) (V m c main_v2) (V m c main_arg4) := by
  unfold G; rw [dif_pos rfl]
theorem G_codes (c : Dev nD) : G m c main_v3_1 = codesAll (V m c main_v0) := by
  unfold G; rw [dif_neg (by decide), dif_pos rfl]
theorem G_scale (c : Dev nD) : G m c main_v3_2 = scaleRow (V m c main_v0) := by
  unfold G; rw [dif_neg (by decide), dif_neg (by decide), dif_pos rfl]

/-! ## The region's state, opened -/

/-- A whole buffer held through its view is the buffer held. -/
theorem bufPt_eq (c : Dev nD) (b : Ref sig .tc) (f : Buf (Elt F) ((c : Thread nD τ).loc b)) :
    bufPt c b f = iprop(((c : Thread nD τ).loc b) ↦{fullShare} f) := by
  unfold bufPt; rw [show (Memref.whole b).view.set = Finset.univ from View.set_whole b]
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗
          semVal ((c : Thread nD τ), SemLoc.dma 3) 0 ∗ semVal ((c : Thread nD τ), SemLoc.dma 4) 0 ∗ semVal ((c : Thread nD τ), SemLoc.dma 5) 0 ∗
          semVal ((c : Thread nD τ), SemLoc.dma 6) 0 ∗ semVal ((c : Thread nD τ), SemLoc.dma 7) 0 ∗ semVal ((c : Thread nD τ), SemLoc.dma 8) 0 ∗
          semVal ((c : Thread nD τ), SemLoc.dma 9) 0 ∗ semVal ((c : Thread nD τ), SemLoc.dma 10) 0 ∗ semVal ((c : Thread nD τ), SemLoc.dma 11) 0 ∗
          semVal ((c : Thread nD τ), SemLoc.dma 12) 0 ∗ semVal ((c : Thread nD τ), SemLoc.dma 13) 0 ∗ semVal ((c : Thread nD τ), SemLoc.dma 14) 0 ∗
          semVal ((c : Thread nD τ), SemLoc.dma 15) 0 ∗ semVal ((c : Thread nD τ), SemLoc.dma 16) 0 ∗ semVal ((c : Thread nD τ), SemLoc.dma 17) 0 ∗
          semVal ((c : Thread nD τ), SemLoc.dma 18) 0 ∗ semVal ((c : Thread nD τ), SemLoc.dma 19) 0 ∗ semVal ((c : Thread nD τ), SemLoc.dma 20) 0 ∗
          semVal ((c : Thread nD τ), SemLoc.dma 21) 0 ∗ semVal ((c : Thread nD τ), SemLoc.dma 22) 0 ∗ semVal ((c : Thread nD τ), SemLoc.dma 23) 0 ∗
          semVal ((c : Thread nD τ), SemLoc.dma 24) 0 ∗ semVal ((c : Thread nD τ), SemLoc.dma 25) 0 ∗ semVal ((c : Thread nD τ), SemLoc.dma 26) 0 ∗
          semVal ((c : Thread nD τ), SemLoc.dma 27) 0 ∗ semVal ((c : Thread nD τ), SemLoc.dma 28) 0 ∗ semVal ((c : Thread nD τ), SemLoc.dma 29) 0 ∗
          semVal ((c : Thread nD τ), SemLoc.dma 30) 0 ∗ semVal ((c : Thread nD τ), SemLoc.dma 31) 0 ∗ semVal ((c : Thread nD τ), SemLoc.dma 32) 0 ∗
          semVal ((c : Thread nD τ), SemLoc.dma 33) 0 ∗ semVal ((c : Thread nD τ), SemLoc.dma 34) 0 ∗ semVal ((c : Thread nD τ), SemLoc.dma 35) 0 ∗
          semVal ((c : Thread nD τ), SemLoc.dma 36) 0 ∗ semVal ((c : Thread nD τ), SemLoc.dma 37) 0 ∗ semVal ((c : Thread nD τ), SemLoc.dma 38) 0 ∗
          semVal ((c : Thread nD τ), SemLoc.dma 39) 0 ∗ semVal ((c : Thread nD τ), SemLoc.dma 40) 0 ∗ semVal ((c : Thread nD τ), SemLoc.dma 41) 0 ∗
          semVal ((c : Thread nD τ), SemLoc.dma 42) 0 ∗ semVal ((c : Thread nD τ), SemLoc.dma 43) 0 ∗ semVal ((c : Thread nD τ), SemLoc.dma 44) 0 ∗
          semVal ((c : Thread nD τ), SemLoc.dma 45) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45] (by decide) (by decide)]; rfl
theorem reads_eq (c : Dev nD) :
    (bigSep H0 (fun b => ((c : Thread nD τ).loc b) ↦{fullShare} V m c b) : sProp 𝕄)
      = iprop(bufPt c main_v0 (V m c main_v0) ∗ bufPt c main_arg1 (V m c main_arg1) ∗ bufPt c main_v1 (V m c main_v1) ∗ bufPt c main_v2 (V m c main_v2) ∗
          bufPt c main_arg4 (V m c main_arg4)) := by
  rw [BI.bigSep_eq_bigSepL_of_eq [main_v0, main_arg1, main_v1, main_v2, main_arg4] (by decide) (by decide)]
  simp only [bufPt_eq]; rfl
theorem writes_eq (c : Dev nD) (g : (b : Ref sig .tc) → Buf (Elt F) ((c : Thread nD τ).loc b)) :
    (bigSep R0 (fun b => ((c : Thread nD τ).loc b) ↦{fullShare} g b) : sProp 𝕄)
      = iprop(bufPt c main_v3_0 (g main_v3_0) ∗ bufPt c main_v3_1 (g main_v3_1) ∗ bufPt c main_v3_2 (g main_v3_2)) := by
  rw [BI.bigSep_eq_bigSepL_of_eq [main_v3_0, main_v3_1, main_v3_2] (by decide) (by decide)]
  simp only [bufPt_eq]; rfl
theorem scratch_eq (c : Dev nD) :
    (Pipeline.scopedRest (Ix := Unit) (Name := ℕ) (U := Pipeline.UD sig nD τ) (Lvl := ℕ) (Val := Elt F) cfg0.spec c : sProp 𝕄)
      = iprop((∃ f, bufPt c cc0_scratch0 f) ∗ (∃ f, bufPt c cc0_scratch1 f) ∗ (∃ f, bufPt c cc0_scratch2 f) ∗ (∃ f, bufPt c cc0_scratch3 f) ∗ (∃ f, bufPt
          c cc0_scratch4 f) ∗ (∃ f, bufPt c cc0_scratch5 f) ∗ (∃ f, bufPt c cc0_scratch6 f) ∗ (∃ f, bufPt c cc0_scratch7 f) ∗ (∃ f, bufPt c
          cc0_scratch8 f) ∗ (∃ f, bufPt c cc0_scratch9 f)) := by
  rw [scopedRest0_eq]; simp only [bufPt_eq]

/-- The state around the body on core `c`: the scratch buffers at anything, the semaphores at zero, what it reads at its
    contents on entry, what it writes at `g`. -/
def state (c : Dev nD) (g : (b : Ref sig .tc) → Buf (Elt F) ((c : Thread nD τ).loc b)) : sProp 𝕄 :=
  iprop(Pipeline.scopedRest (Ix := Unit) (Name := ℕ) (U := Pipeline.UD sig nD τ) (Lvl := ℕ) (Val := Elt F) cfg0.spec c
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V m c b) ∗ bigSep R0 fun b => ((c : Thread nD τ).loc b) ↦{fullShare} g b)

theorem state_eq (c : Dev nD) (g : (b : Ref sig .tc) → Buf (Elt F) ((c : Thread nD τ).loc b)) : state m c g
    = iprop(iprop((∃ f, bufPt c cc0_scratch0 f) ∗ (∃ f, bufPt c cc0_scratch1 f) ∗ (∃ f, bufPt c cc0_scratch2 f) ∗ (∃ f, bufPt c cc0_scratch3 f) ∗ (∃ f, bufPt
          c cc0_scratch4 f) ∗ (∃ f, bufPt c cc0_scratch5 f) ∗ (∃ f, bufPt c cc0_scratch6 f) ∗ (∃ f, bufPt c cc0_scratch7 f) ∗ (∃ f, bufPt c
          cc0_scratch8 f) ∗ (∃ f, bufPt c cc0_scratch9 f))
        ∗ iprop(semVal ((c : Thread nD τ), SemLoc.dma 0) 0 ∗ semVal ((c : Thread nD τ), SemLoc.dma 1) 0 ∗ semVal ((c : Thread nD τ), SemLoc.dma 2) 0 ∗
          semVal ((c : Thread nD τ), SemLoc.dma 3) 0 ∗ semVal ((c : Thread nD τ), SemLoc.dma 4) 0 ∗ semVal ((c : Thread nD τ), SemLoc.dma 5) 0 ∗
          semVal ((c : Thread nD τ), SemLoc.dma 6) 0 ∗ semVal ((c : Thread nD τ), SemLoc.dma 7) 0 ∗ semVal ((c : Thread nD τ), SemLoc.dma 8) 0 ∗
          semVal ((c : Thread nD τ), SemLoc.dma 9) 0 ∗ semVal ((c : Thread nD τ), SemLoc.dma 10) 0 ∗ semVal ((c : Thread nD τ), SemLoc.dma 11) 0 ∗
          semVal ((c : Thread nD τ), SemLoc.dma 12) 0 ∗ semVal ((c : Thread nD τ), SemLoc.dma 13) 0 ∗ semVal ((c : Thread nD τ), SemLoc.dma 14) 0 ∗
          semVal ((c : Thread nD τ), SemLoc.dma 15) 0 ∗ semVal ((c : Thread nD τ), SemLoc.dma 16) 0 ∗ semVal ((c : Thread nD τ), SemLoc.dma 17) 0 ∗
          semVal ((c : Thread nD τ), SemLoc.dma 18) 0 ∗ semVal ((c : Thread nD τ), SemLoc.dma 19) 0 ∗ semVal ((c : Thread nD τ), SemLoc.dma 20) 0 ∗
          semVal ((c : Thread nD τ), SemLoc.dma 21) 0 ∗ semVal ((c : Thread nD τ), SemLoc.dma 22) 0 ∗ semVal ((c : Thread nD τ), SemLoc.dma 23) 0 ∗
          semVal ((c : Thread nD τ), SemLoc.dma 24) 0 ∗ semVal ((c : Thread nD τ), SemLoc.dma 25) 0 ∗ semVal ((c : Thread nD τ), SemLoc.dma 26) 0 ∗
          semVal ((c : Thread nD τ), SemLoc.dma 27) 0 ∗ semVal ((c : Thread nD τ), SemLoc.dma 28) 0 ∗ semVal ((c : Thread nD τ), SemLoc.dma 29) 0 ∗
          semVal ((c : Thread nD τ), SemLoc.dma 30) 0 ∗ semVal ((c : Thread nD τ), SemLoc.dma 31) 0 ∗ semVal ((c : Thread nD τ), SemLoc.dma 32) 0 ∗
          semVal ((c : Thread nD τ), SemLoc.dma 33) 0 ∗ semVal ((c : Thread nD τ), SemLoc.dma 34) 0 ∗ semVal ((c : Thread nD τ), SemLoc.dma 35) 0 ∗
          semVal ((c : Thread nD τ), SemLoc.dma 36) 0 ∗ semVal ((c : Thread nD τ), SemLoc.dma 37) 0 ∗ semVal ((c : Thread nD τ), SemLoc.dma 38) 0 ∗
          semVal ((c : Thread nD τ), SemLoc.dma 39) 0 ∗ semVal ((c : Thread nD τ), SemLoc.dma 40) 0 ∗ semVal ((c : Thread nD τ), SemLoc.dma 41) 0 ∗
          semVal ((c : Thread nD τ), SemLoc.dma 42) 0 ∗ semVal ((c : Thread nD τ), SemLoc.dma 43) 0 ∗ semVal ((c : Thread nD τ), SemLoc.dma 44) 0 ∗
          semVal ((c : Thread nD τ), SemLoc.dma 45) 0)
        ∗ iprop(bufPt c main_v0 (V m c main_v0) ∗ bufPt c main_arg1 (V m c main_arg1) ∗ bufPt c main_v1 (V m c main_v1) ∗ bufPt c main_v2 (V m c main_v2) ∗
          bufPt c main_arg4 (V m c main_arg4))
        ∗ iprop(bufPt c main_v3_0 (g main_v3_0) ∗ bufPt c main_v3_1 (g main_v3_1) ∗ bufPt c main_v3_2 (g main_v3_2))) := by
  unfold state; rw [scratch_eq, ownSems00_eq, reads_eq, writes_eq]

/-! ## The proof data and the body -/

/-- The call's proof data on core `c`: no window; the state before the one point and after it. -/
def dats (_ : Fin 1) (c : Dev nD) : Dat τ (Elt F) Unit ℕ (Pipeline.UD sig nD τ) ℕ cfg0 c where
  A w := w.elim0
  after w _ := w.elim0
  Φ t := state m c (if t = 0 then V m c else G m c)
  q _ := fullShare
  owed _ := 0

theorem A_eq (c : Dev nD) (w : Fin cfg0.W) : (dats m 0 c).A w = V0 m c (Proc.devRef .tc (Pipeline.arrRef cfg0.spec w)) := w.elim0
theorem before (c : Dev nD) : (dats m 0 c).Φ (t0_0.castSucc) = state m c (V m c) := by
  dsimp only [dats]; rw [if_pos (by decide)]
theorem behind (c : Dev nD) : (dats m 0 c).Φ (t0_0.succ) = state m c (G m c) := by
  dsimp only [dats]; rw [if_neg (by decide)]

def bodyPre (c : Dev nD) : sProp 𝕄 :=
  iprop((dats m 0 c).Φ t0_0.castSucc ∗ (dats m 0 c).owesAt () t0_0.castSucc ∗ emp)
def bodyPost (c : Dev nD) : PUnit → sProp 𝕄 := fun _ =>
  iprop((dats m 0 c).Φ t0_0.succ ∗ (dats m 0 c).owesAt () t0_0.succ ∗ emp)

set_option maxHeartbeats 1600000 in
/-- The body takes the state before its point to the state after it. -/
theorem sound_body (c : Dev nD) :
    bodyPre m c ⊢ wp frame (wpE (defs₀ (F := F)) Variants.none c none) Set.univ (bodyAt0 t0_0) (bodyPost m c) := by
  unfold bodyPre bodyPost
  rw [before, behind, state_eq, state_eq, G_y, G_codes, G_scale]
  unfold Dat.owesAt Pipeline.owesWithin
  rw [show (dats m 0 c).owed t0_0.castSucc = 0 from rfl, show (dats m 0 c).owed t0_0.succ = 0 from rfl]
  iintro ⟨⟨⟨⟨%fSx, Sx⟩, ⟨%fSw, Sw⟩, ⟨%fSws, Sws⟩, ⟨%fSa, Sa⟩, ⟨%fSb, Sb⟩, ⟨%fSy, Sy⟩, ⟨%fSc, Sc⟩, ⟨%fScol, Scol⟩, ⟨%fSrow, Srow⟩, ⟨%fSt, St⟩⟩,
    ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45⟩,
    ⟨Hx, Hw, Hws, Ha, Hb⟩, ⟨Hy, Hc, Hs⟩⟩, ⟨%W, -, HW⟩, -⟩
  iapply ((kernelRun c (V m c main_v0) (V m c main_arg1) (V m c main_v1) (V m c main_v2) (V m c main_arg4)).2.2.2 (V m c main_v3_0) (V m c main_v3_1) (V m c main_v3_2) fSx fSw fSws fSa fSb fSy fSc fScol fSrow fSt W _)
  isplitl [Hx]; · iexact Hx
  isplitl [Hw]; · iexact Hw
  isplitl [Hws]; · iexact Hws
  isplitl [Ha]; · iexact Ha
  isplitl [Hb]; · iexact Hb
  isplitl [Hy]; · iexact Hy
  isplitl [Hc]; · iexact Hc
  isplitl [Hs]; · iexact Hs
  isplitl [Sx]; · iexact Sx
  isplitl [Sw]; · iexact Sw
  isplitl [Sws]; · iexact Sws
  isplitl [Sa]; · iexact Sa
  isplitl [Sb]; · iexact Sb
  isplitl [Sy]; · iexact Sy
  isplitl [Sc]; · iexact Sc
  isplitl [Scol]; · iexact Scol
  isplitl [Srow]; · iexact Srow
  isplitl [St]; · iexact St
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [HW]; · iexact HW
  rw [y_result, codes_result, scale_result]
  iintro ⟨Hx, Hw, Hws, Ha, Hb, Hy, Hc, Hs, Sx, Sw, Sws, Sa, Sb, Sy, Sc, Scol, Srow, St, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, ⟨%W', HW'⟩⟩
  isplitl [Sx Sw Sws Sa Sb Sy Sc Scol Srow St Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Hx Hw Hws Ha Hb Hy Hc Hs]
  · isplitl [Sx Sw Sws Sa Sb Sy Sc Scol Srow St]
    · skip
      isplitl [Sx]; · iexact Sx
      isplitl [Sw]; · iexact Sw
      isplitl [Sws]; · iexact Sws
      isplitl [Sa]; · iexact Sa
      isplitl [Sb]; · iexact Sb
      isplitl [Sy]; · iexact Sy
      isplitl [Sc]; · iexact Sc
      isplitl [Scol]; · iexact Scol
      isplitl [Srow]; · iexact Srow
      iexact St
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45]
    · skip
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      isplitl [Q42]; · iexact Q42
      isplitl [Q43]; · iexact Q43
      isplitl [Q44]; · iexact Q44
      iexact Q45
    isplitl [Hx Hw Hws Ha Hb]
    · skip
      isplitl [Hx]; · iexact Hx
      isplitl [Hw]; · iexact Hw
      isplitl [Hws]; · iexact Hws
      isplitl [Ha]; · iexact Ha
      iexact Hb
    isplitl [Hy]; · iexact Hy
    isplitl [Hc]; · iexact Hc
    iexact Hs
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  obtain rfl := fin_N0 t
  rw [Finset.univ_eq_empty, bigSep_empty, bigSep_empty, defs₀_row]
  exact triple_restated (sound_body m c) rfl .rfl fun _ => .rfl

/-! ## The run -/

set_option maxHeartbeats 800000 in
/-- @main is its host lines, the kernel call, its host lines. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents core `c` ends at: the last host lines run from the region's contents with the three results written. -/
def ending (c : Dev nD) : Valuation τ sig (Elt F) :=
  StableHlo.after [hostOps1].flatten (Pipeline.withArrays cfg0.spec c (Pipeline.withR (V0 m c) R0 c (G m c))
    fun w => (dats m 0 c).arrAt w cfg0.N)

set_option backward.isDefEq.respectTransparency.types false in
/-- The program runs to `ending` with every semaphore counter back at zero. -/
theorem run_main : θ_run defs (onTc (τ := τ) (main (F := F))) (s₀ m ρ) (fun r =>
    (∀ c : Dev nD, (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = ending m c (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m) (hA := A_eq m)
    (hin := fun c => Entails.of_eq (before m c).symm) (hout := fun c => Entails.of_eq (behind m c))

/-! ## What it ends at -/

theorem mid_read (c : Dev nD) (b : Ref sig .tc) : Pipeline.withArrays cfg0.spec c (Pipeline.withR (V0 m c) R0 c (G m c))
    (fun w => (dats m 0 c).arrAt w cfg0.N) (Proc.devRef .tc b) = Pipeline.withR (V0 m c) R0 c (G m c) (Proc.devRef .tc b) :=
  Pipeline.withArrays_of_ne _ c _ _ b fun w => w.elim0

/-- A buffer the last host lines and the body leave alone ends as the region found it. -/
theorem ending_kept (c : Dev nD) (b : Ref sig .tc) (hR : b ∉ R0) (h4 : b ≠ main_v4) (h5 : b ≠ main_v5) (h6 : b ≠ main_v6) :
    ending m c (Proc.devRef .tc b) = V m c b := by
  unfold ending
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h4, StableHlo.devRef_ne_of_ne h5, StableHlo.devRef_ne_of_ne h6⟩)),
    mid_read, Pipeline.withR_of_not_mem _ _ _ _ b hR]

/-- `y` at the program's end. -/
theorem ending_y (c : Dev nD) : ending m c (Proc.devRef .tc main_v4)
    = shapeCast S1x384x5120 (yAll (V m c main_v0) (V m c main_arg1) (V m c main_v1) (V m c main_v2) (V m c main_arg4))
        shapeCasts_S384x5120_S1x384x5120 := by
  unfold ending
  simp only [List.flatten_cons, List.flatten_nil, List.append_nil]
  after_results
  rw [mid_read, Pipeline.withR_of_mem _ _ _ _ main_v3_0 (by decide), G_y]
  rfl
/-- The codes at the program's end. -/
theorem ending_codes (c : Dev nD) : ending m c (Proc.devRef .tc main_v5)
    = shapeCast S1x384x5120 (codesAll (V m c main_v0)) shapeCasts_S384x5120_S1x384x5120 := by
  unfold ending
  simp only [List.flatten_cons, List.flatten_nil, List.append_nil]
  after_results
  rw [mid_read, Pipeline.withR_of_mem _ _ _ _ main_v3_1 (by decide), G_codes]
  rfl
/-- The scales at the program's end. -/
theorem ending_scale (c : Dev nD) : ending m c (Proc.devRef .tc main_v6)
    = shapeCast S1x384x1 (scaleRow (V m c main_v0)) shapeCasts_S1x384_S1x384x1 := by
  unfold ending
  simp only [List.flatten_cons, List.flatten_nil, List.append_nil]
  after_results
  rw [mid_read, Pipeline.withR_of_mem _ _ _ _ main_v3_2 (by decide), G_scale]
  rfl

/-- The whole program: it terminates without a fault, the five arguments end as they were, every semaphore counter ends at
    zero, and the three results are the reshapes of `yAll`, `codesAll` and `scaleRow` at what the first host lines make of
    the arguments. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4)
          = shapeCast S1x384x5120 (yAll (V m c main_v0) (V m c main_arg1) (V m c main_v1) (V m c main_v2) (V m c main_arg4))
              shapeCasts_S384x5120_S1x384x5120
      ∧ r.2.mem ((c.tc : Thread nD τ).loc main_v5)
          = shapeCast S1x384x5120 (codesAll (V m c main_v0)) shapeCasts_S384x5120_S1x384x5120
      ∧ r.2.mem ((c.tc : Thread nD τ).loc main_v6)
          = shapeCast S1x384x1 (scaleRow (V m c main_v0)) shapeCasts_S1x384_S1x384x1)
      ∧ r.2.sem = fun _ => 0) :=
  (θ_run defs _ _).mono (fun r h => ⟨fun c =>
    have k := fun b hb => (h.1 c).2 b hb
    ⟨⟨(k main_arg0 (by decide)).trans ((ending_kept m c main_arg0 (by decide) (by decide) (by decide) (by decide)).trans (V_main_arg0 m c)),
      (k main_arg1 (by decide)).trans ((ending_kept m c main_arg1 (by decide) (by decide) (by decide) (by decide)).trans (V_main_arg1 m c)),
      (k main_arg2 (by decide)).trans ((ending_kept m c main_arg2 (by decide) (by decide) (by decide) (by decide)).trans (V_main_arg2 m c)),
      (k main_arg3 (by decide)).trans ((ending_kept m c main_arg3 (by decide) (by decide) (by decide) (by decide)).trans (V_main_arg3 m c)),
      (k main_arg4 (by decide)).trans ((ending_kept m c main_arg4 (by decide) (by decide) (by decide) (by decide)).trans (V_main_arg4 m c))⟩,
    (k main_v4 (by decide)).trans (ending_y m c), (k main_v5 (by decide)).trans (ending_codes m c),
    (k main_v6 (by decide)).trans (ending_scale m c)⟩, h.2⟩) (run_main m ρ)

/-- The program's frame: it terminates without a fault, its arguments end as they were, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).1, h.2⟩) (run_values m ρ)

end Cert.Kernel.Hand
end
-- ==== Proof.KernelIdeal.Run.lean ====
/-
  Hand-written. The kernel's body on one core, run once from whole buffers: from the five arguments, the three results and
  the ten scratch buffers held whole and the forty-six semaphore counters at zero, the body runs to its end, hands the
  arguments back unchanged, every counter back at zero, and leaves each result written with the list of pieces the run finds.
-/
module
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV
public import Idealize.ShloMosaic.Lib.Ring
public import Idealize.ShloMosaic.Lib.Tactic
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ (Pipeline.UD sig nD τ) ℕ

/-- Core `c`'s buffer `b` held whole at contents `f`. -/
abbrev bufPt (c : Dev nD) (b : Ref sig .tc) (f : Buf (Elt F) ((Memref.whole b).view.loc (c : Thread nD τ))) : sProp 𝕄 :=
  iprop((Memref.whole b).view.loc (c : Thread nD τ) ↦[(Memref.whole b).view.set]{fullShare} f)

set_option maxHeartbeats 2000000 in
/-- The body's run: the three lists of pieces it leaves in `y`, in the codes and in the scales (functions of what the scratch
    buffer each is copied from held at the start), and the triple that says so. -/
noncomputable def kernelRun (c : Dev nD) (fHx : Buf (Elt F) ((Memref.whole main_v0).view.loc (c : Thread nD τ))) (fHw : Buf (Elt F) ((Memref.whole main_arg1).view.loc (c : Thread nD τ))) (fHws : Buf (Elt F) ((Memref.whole main_v1).view.loc (c : Thread nD τ))) (fHa : Buf (Elt F) ((Memref.whole main_v2).view.loc (c : Thread nD τ))) (fHb : Buf (Elt F) ((Memref.whole main_arg4).view.loc (c : Thread nD τ))) :
    (Ly : Buf (Elt F) ((Memref.whole cc0_scratch5).view.loc (c : Thread nD τ)) → List (View.Piece (Elt F) S384x5120 .bf16)) ×'
    (Lc : Buf (Elt F) ((Memref.whole cc0_scratch6).view.loc (c : Thread nD τ)) → List (View.Piece (Elt F) S384x5120 .fp8e4m3)) ×'
    (Ls : Buf (Elt F) ((Memref.whole cc0_scratch8).view.loc (c : Thread nD τ)) → List (View.Piece (Elt F) S1x384 .f32)) ×'
    (∀ (fHy : Buf (Elt F) ((Memref.whole main_v3_0).view.loc (c : Thread nD τ))) (fHc : Buf (Elt F) ((Memref.whole main_v3_1).view.loc (c : Thread nD τ))) (fHs : Buf (Elt F) ((Memref.whole main_v3_2).view.loc (c : Thread nD τ))) (fSx : Buf (Elt F) ((Memref.whole cc0_scratch0).view.loc (c : Thread nD τ))) (fSw : Buf (Elt F) ((Memref.whole cc0_scratch1).view.loc (c : Thread nD τ))) (fSws : Buf (Elt F) ((Memref.whole cc0_scratch2).view.loc (c : Thread nD τ))) (fSa : Buf (Elt F) ((Memref.whole cc0_scratch3).view.loc (c : Thread nD τ))) (fSb : Buf (Elt F) ((Memref.whole cc0_scratch4).view.loc (c : Thread nD τ))) (fSy : Buf (Elt F) ((Memref.whole cc0_scratch5).view.loc (c : Thread nD τ))) (fSc : Buf (Elt F) ((Memref.whole cc0_scratch6).view.loc (c : Thread nD τ))) (fScol : Buf (Elt F) ((Memref.whole cc0_scratch7).view.loc (c : Thread nD τ))) (fSrow : Buf (Elt F) ((Memref.whole cc0_scratch8).view.loc (c : Thread nD τ))) (fSt : Buf (Elt F) ((Memref.whole cc0_scratch9).view.loc (c : Thread nD τ))) (W : Waits sig Unit) (K : PUnit → sProp 𝕄),
      iprop(bufPt c main_v0 fHx ∗ bufPt c main_arg1 fHw ∗ bufPt c main_v1 fHws ∗ bufPt c main_v2 fHa ∗ bufPt c main_arg4 fHb ∗ bufPt c main_v3_0 fHy ∗
        bufPt c main_v3_1 fHc ∗ bufPt c main_v3_2 fHs ∗ bufPt c cc0_scratch0 fSx ∗ bufPt c cc0_scratch1 fSw ∗ bufPt c cc0_scratch2 fSws ∗
        bufPt c cc0_scratch3 fSa ∗ bufPt c cc0_scratch4 fSb ∗ bufPt c cc0_scratch5 fSy ∗ bufPt c cc0_scratch6 fSc ∗ bufPt c cc0_scratch7 fScol ∗
        bufPt c cc0_scratch8 fSrow ∗ bufPt c cc0_scratch9 fSt ∗ semVal ((c : Thread nD τ), SemLoc.dma 0) 0 ∗
        semVal ((c : Thread nD τ), SemLoc.dma 1) 0 ∗ semVal ((c : Thread nD τ), SemLoc.dma 2) 0 ∗ semVal ((c : Thread nD τ), SemLoc.dma 3) 0 ∗
        semVal ((c : Thread nD τ), SemLoc.dma 4) 0 ∗ semVal ((c : Thread nD τ), SemLoc.dma 5) 0 ∗ semVal ((c : Thread nD τ), SemLoc.dma 6) 0 ∗
        semVal ((c : Thread nD τ), SemLoc.dma 7) 0 ∗ semVal ((c : Thread nD τ), SemLoc.dma 8) 0 ∗ semVal ((c : Thread nD τ), SemLoc.dma 9) 0 ∗
        semVal ((c : Thread nD τ), SemLoc.dma 10) 0 ∗ semVal ((c : Thread nD τ), SemLoc.dma 11) 0 ∗ semVal ((c : Thread nD τ), SemLoc.dma 12) 0 ∗
        semVal ((c : Thread nD τ), SemLoc.dma 13) 0 ∗ semVal ((c : Thread nD τ), SemLoc.dma 14) 0 ∗ semVal ((c : Thread nD τ), SemLoc.dma 15) 0 ∗
        semVal ((c : Thread nD τ), SemLoc.dma 16) 0 ∗ semVal ((c : Thread nD τ), SemLoc.dma 17) 0 ∗ semVal ((c : Thread nD τ), SemLoc.dma 18) 0 ∗
        semVal ((c : Thread nD τ), SemLoc.dma 19) 0 ∗ semVal ((c : Thread nD τ), SemLoc.dma 20) 0 ∗ semVal ((c : Thread nD τ), SemLoc.dma 21) 0 ∗
        semVal ((c : Thread nD τ), SemLoc.dma 22) 0 ∗ semVal ((c : Thread nD τ), SemLoc.dma 23) 0 ∗ semVal ((c : Thread nD τ), SemLoc.dma 24) 0 ∗
        semVal ((c : Thread nD τ), SemLoc.dma 25) 0 ∗ semVal ((c : Thread nD τ), SemLoc.dma 26) 0 ∗ semVal ((c : Thread nD τ), SemLoc.dma 27) 0 ∗
        semVal ((c : Thread nD τ), SemLoc.dma 28) 0 ∗ semVal ((c : Thread nD τ), SemLoc.dma 29) 0 ∗ semVal ((c : Thread nD τ), SemLoc.dma 30) 0 ∗
        semVal ((c : Thread nD τ), SemLoc.dma 31) 0 ∗ semVal ((c : Thread nD τ), SemLoc.dma 32) 0 ∗ semVal ((c : Thread nD τ), SemLoc.dma 33) 0 ∗
        semVal ((c : Thread nD τ), SemLoc.dma 34) 0 ∗ semVal ((c : Thread nD τ), SemLoc.dma 35) 0 ∗ semVal ((c : Thread nD τ), SemLoc.dma 36) 0 ∗
        semVal ((c : Thread nD τ), SemLoc.dma 37) 0 ∗ semVal ((c : Thread nD τ), SemLoc.dma 38) 0 ∗ semVal ((c : Thread nD τ), SemLoc.dma 39) 0 ∗
        semVal ((c : Thread nD τ), SemLoc.dma 40) 0 ∗ semVal ((c : Thread nD τ), SemLoc.dma 41) 0 ∗ semVal ((c : Thread nD τ), SemLoc.dma 42) 0 ∗
        semVal ((c : Thread nD τ), SemLoc.dma 43) 0 ∗ semVal ((c : Thread nD τ), SemLoc.dma 44) 0 ∗ semVal ((c : Thread nD τ), SemLoc.dma 45) 0 ∗
        owes (c : Thread nD τ) 0 W
        ∗ (iprop(bufPt c main_v0 fHx ∗ bufPt c main_arg1 fHw ∗ bufPt c main_v1 fHws ∗ bufPt c main_v2 fHa ∗ bufPt c main_arg4 fHb ∗
            bufPt c main_v3_0 ((Memref.whole main_v3_0).view.writes (Elt F) fHy (Ly fSy)) ∗
            bufPt c main_v3_1 ((Memref.whole main_v3_1).view.writes (Elt F) fHc (Lc fSc)) ∗
            bufPt c main_v3_2 ((Memref.whole main_v3_2).view.writes (Elt F) fHs (Ls fSrow)) ∗ (∃ f, bufPt c cc0_scratch0 f) ∗
            (∃ f, bufPt c cc0_scratch1 f) ∗ (∃ f, bufPt c cc0_scratch2 f) ∗ (∃ f, bufPt c cc0_scratch3 f) ∗ (∃ f, bufPt c cc0_scratch4 f) ∗
            (∃ f, bufPt c cc0_scratch5 f) ∗ (∃ f, bufPt c cc0_scratch6 f) ∗ (∃ f, bufPt c cc0_scratch7 f) ∗ (∃ f, bufPt c cc0_scratch8 f) ∗
            (∃ f, bufPt c cc0_scratch9 f) ∗ semVal ((c : Thread nD τ), SemLoc.dma 0) 0 ∗ semVal ((c : Thread nD τ), SemLoc.dma 1) 0 ∗
            semVal ((c : Thread nD τ), SemLoc.dma 2) 0 ∗ semVal ((c : Thread nD τ), SemLoc.dma 3) 0 ∗ semVal ((c : Thread nD τ), SemLoc.dma 4) 0 ∗
            semVal ((c : Thread nD τ), SemLoc.dma 5) 0 ∗ semVal ((c : Thread nD τ), SemLoc.dma 6) 0 ∗ semVal ((c : Thread nD τ), SemLoc.dma 7) 0 ∗
            semVal ((c : Thread nD τ), SemLoc.dma 8) 0 ∗ semVal ((c : Thread nD τ), SemLoc.dma 9) 0 ∗ semVal ((c : Thread nD τ), SemLoc.dma 10) 0 ∗
            semVal ((c : Thread nD τ), SemLoc.dma 11) 0 ∗ semVal ((c : Thread nD τ), SemLoc.dma 12) 0 ∗ semVal ((c : Thread nD τ), SemLoc.dma 13) 0 ∗
            semVal ((c : Thread nD τ), SemLoc.dma 14) 0 ∗ semVal ((c : Thread nD τ), SemLoc.dma 15) 0 ∗ semVal ((c : Thread nD τ), SemLoc.dma 16) 0 ∗
            semVal ((c : Thread nD τ), SemLoc.dma 17) 0 ∗ semVal ((c : Thread nD τ), SemLoc.dma 18) 0 ∗ semVal ((c : Thread nD τ), SemLoc.dma 19) 0 ∗
            semVal ((c : Thread nD τ), SemLoc.dma 20) 0 ∗ semVal ((c : Thread nD τ), SemLoc.dma 21) 0 ∗ semVal ((c : Thread nD τ), SemLoc.dma 22) 0 ∗
            semVal ((c : Thread nD τ), SemLoc.dma 23) 0 ∗ semVal ((c : Thread nD τ), SemLoc.dma 24) 0 ∗ semVal ((c : Thread nD τ), SemLoc.dma 25) 0 ∗
            semVal ((c : Thread nD τ), SemLoc.dma 26) 0 ∗ semVal ((c : Thread nD τ), SemLoc.dma 27) 0 ∗ semVal ((c : Thread nD τ), SemLoc.dma 28) 0 ∗
            semVal ((c : Thread nD τ), SemLoc.dma 29) 0 ∗ semVal ((c : Thread nD τ), SemLoc.dma 30) 0 ∗ semVal ((c : Thread nD τ), SemLoc.dma 31) 0 ∗
            semVal ((c : Thread nD τ), SemLoc.dma 32) 0 ∗ semVal ((c : Thread nD τ), SemLoc.dma 33) 0 ∗ semVal ((c : Thread nD τ), SemLoc.dma 34) 0 ∗
            semVal ((c : Thread nD τ), SemLoc.dma 35) 0 ∗ semVal ((c : Thread nD τ), SemLoc.dma 36) 0 ∗ semVal ((c : Thread nD τ), SemLoc.dma 37) 0 ∗
            semVal ((c : Thread nD τ), SemLoc.dma 38) 0 ∗ semVal ((c : Thread nD τ), SemLoc.dma 39) 0 ∗ semVal ((c : Thread nD τ), SemLoc.dma 40) 0 ∗
            semVal ((c : Thread nD τ), SemLoc.dma 41) 0 ∗ semVal ((c : Thread nD τ), SemLoc.dma 42) 0 ∗ semVal ((c : Thread nD τ), SemLoc.dma 43) 0 ∗
            semVal ((c : Thread nD τ), SemLoc.dma 44) 0 ∗ semVal ((c : Thread nD τ), SemLoc.dma 45) 0 ∗ (∃ W', owes (c : Thread nD τ) 0 W')) -∗ K ⟨⟩))
      ⊢ wp frame (wpE (defs₀ (F := F)) Variants.none c none) Set.univ (bodyAt0 t0_0) K) := by
  refine ⟨?_, ?_, ?_, fun fHy fHc fHs fSx fSw fSws fSa fSb fSy fSc fScol fSrow fSt W K => ?run⟩
  case run =>
    unfold bodyAt0 bufPt
    iintro ⟨Hx, Hw, Hws, Ha, Hb, Hy, Hc, Hs, Sx, Sw, Sws, Sa, Sb, Sy, Sc, Scol, Srow, St, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, HW, Hk⟩
    set_option sl_exec.dmaWindow true in
    set_option sl_exec.dmaWindowLent true in
    set_option sl_exec.dmaWindowSet true in
    set_option sl_exec.lendShare "Sc" in
    set_option sl_exec.rejoinFuel 64 in
    sl_exec_parts
    sl_step
    iapply Hk
    isplitl [Hx]; · iexact Hx
    isplitl [Hw]; · iexact Hw
    isplitl [Hws]; · iexact Hws
    isplitl [Ha]; · iexact Ha
    isplitl [Hb]; · iexact Hb
    isplitl [Hy]; · iexact Hy
    isplitl [Hc]; · iexact Hc
    isplitl [Hs]; · iexact Hs
    isplitl [Sx]; · iexists _; iexact Sx
    isplitl [Sw]; · iexists _; iexact Sw
    isplitl [Sws]; · iexists _; iexact Sws
    isplitl [Sa]; · iexists _; iexact Sa
    isplitl [Sb]; · iexists _; iexact Sb
    isplitl [Sy]; · iexists _; iexact Sy
    isplitl [Sc]; · iexists _; iexact Sc
    isplitl [Scol]; · iexists _; iexact Scol
    isplitl [Srow]; · iexists _; iexact Srow
    isplitl [St]; · iexists _; iexact St
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    isplitl [Q32]; · iexact Q32
    isplitl [Q33]; · iexact Q33
    isplitl [Q34]; · iexact Q34
    isplitl [Q35]; · iexact Q35
    isplitl [Q36]; · iexact Q36
    isplitl [Q37]; · iexact Q37
    isplitl [Q38]; · iexact Q38
    isplitl [Q39]; · iexact Q39
    isplitl [Q40]; · iexact Q40
    isplitl [Q41]; · iexact Q41
    isplitl [Q42]; · iexact Q42
    isplitl [Q43]; · iexact Q43
    isplitl [Q44]; · iexact Q44
    isplitl [Q45]; · iexact Q45
    iexists _; iexact HW

end Cert.KernelIdeal.Hand
end
-- ==== Proof.KernelIdeal.Parts.lean ====
/-
  Hand-written. What the body computes, as plain functions of the five arrays it reads: the quantiser of one chunk of
  sixty-four rows, the row of scales, one slab of 512 result columns, and the three whole results put together from
  them. And how a rectangle of a matrix is indexed.
-/
module
public import proofs.«01_k».proof.Proof.Gen.KernelIdeal.Skeleton
public import Idealize.ShloMosaic.Lib.Pipeline.FrameBody
public import Idealize.ShloMosaic.Lib.Writes
public import Idealize.ShloMosaic.Lib.Pointwise
@[expose] public section
set_option maxRecDepth 16384
noncomputable section
namespace Cert.KernelIdeal.Hand
open Cert.KernelIdeal Cert.KernelIdeal.Gen
open Idealize.ShloMosaic
variable {F : FTy → Type} [FloatOps F]

/-! ## Blocks of rows and of columns of a matrix -/

/-- The `k`-th block of `H` rows. -/
def rowBlk {M H n N : ℕ} {α : Type} (h : M = n * H) (X : (⟨2, ![M, N]⟩ : Shape).Idx → α) (k : Fin n) :
    (⟨2, ![H, N]⟩ : Shape).Idx → α := fun j =>
  X (ix2 ⟨k.val * H + (j 0).val, by
    have h0 : (j 0).val < H := (j 0).isLt
    have h1 : (k.val + 1) * H ≤ n * H := Nat.mul_le_mul_right _ k.isLt
    rw [Nat.add_mul, Nat.one_mul] at h1; omega⟩ (j 1))

/-- The `k`-th block of `W` columns. -/
def colBlk {R W n N : ℕ} {α : Type} (h : N = n * W) (X : (⟨2, ![R, N]⟩ : Shape).Idx → α) (k : Fin n) :
    (⟨2, ![R, W]⟩ : Shape).Idx → α := fun j =>
  X (ix2 (j 0) ⟨k.val * W + (j 1).val, by
    have h0 : (j 1).val < W := (j 1).isLt
    have h1 : (k.val + 1) * W ≤ n * W := Nat.mul_le_mul_right _ k.isLt
    rw [Nat.add_mul, Nat.one_mul] at h1; omega⟩)

/-- The matrix whose blocks of rows are given. -/
def ofRows {M H n N : ℕ} {α : Type} (h : M = n * H) (hH : 0 < H) (g : Fin n → (⟨2, ![H, N]⟩ : Shape).Idx → α) :
    (⟨2, ![M, N]⟩ : Shape).Idx → α := fun y =>
  g ⟨(y 0).val / H, by
    have h0 : (y 0).val < M := (y 0).isLt
    exact (Nat.div_lt_iff_lt_mul hH).mpr (by omega)⟩ (ix2 ⟨(y 0).val % H, Nat.mod_lt _ hH⟩ (y 1))

/-- The matrix whose blocks of columns are given. -/
def ofCols {R W n N : ℕ} {α : Type} (h : N = n * W) (hW : 0 < W) (g : Fin n → (⟨2, ![R, W]⟩ : Shape).Idx → α) :
    (⟨2, ![R, N]⟩ : Shape).Idx → α := fun y =>
  g ⟨(y 1).val / W, by
    have h0 : (y 1).val < N := (y 1).isLt
    exact (Nat.div_lt_iff_lt_mul hW).mpr (by omega)⟩ (ix2 (y 0) ⟨(y 1).val % W, Nat.mod_lt _ hW⟩)

/-- A unit-stride rectangle at `(o, p)` places its index `j` at `(o + j 0, p + j 1)`. -/
theorem unit_emb {M N A B o p : ℕ} (inb : ∀ a, (![o, p] : Fin 2 → ℕ) a + (![A, B] : Fin 2 → ℕ) a ≤ (⟨2, ![M, N]⟩ : Shape).size a)
    (j : (⟨2, ![A, B]⟩ : Shape).Idx) (h0 : o + (j 0).val < M) (h1 : p + (j 1).val < N) :
    (Rect.unit (s := ⟨2, ![M, N]⟩) ![o, p] ![A, B] inb).emb j = ix2 ⟨o + (j 0).val, h0⟩ ⟨p + (j 1).val, h1⟩ := by
  funext a
  apply Fin.ext
  rw [Rect.emb_apply]
  match a with
  | ⟨0, _⟩ => simp only [Rect.unit]; exact congrArg (o + ·) (Nat.one_mul _)
  | ⟨1, _⟩ => simp only [Rect.unit]; exact congrArg (p + ·) (Nat.one_mul _)

/-- Reading a matrix through the rectangle of its `k`-th block of rows gives that block. -/
theorem rowBlk_emb {M H n N o : ℕ} {α : Type} (h : M = n * H) (X : (⟨2, ![M, N]⟩ : Shape).Idx → α) (k : Fin n) (ho : o = k.val * H)
    (inb : ∀ a, (![o, 0] : Fin 2 → ℕ) a + (![H, N] : Fin 2 → ℕ) a ≤ (⟨2, ![M, N]⟩ : Shape).size a) :
    (fun j => X ((Rect.unit (s := ⟨2, ![M, N]⟩) ![o, 0] ![H, N] inb).emb j)) = rowBlk h X k := by
  subst ho
  funext j
  have h0 : (j 0).val < H := (j 0).isLt
  have h1 : (j 1).val < N := (j 1).isLt
  have hk : (k.val + 1) * H ≤ n * H := Nat.mul_le_mul_right _ k.isLt
  rw [Nat.add_mul, Nat.one_mul] at hk
  unfold rowBlk
  rw [unit_emb inb j (by omega) (by omega)]
  congr 2
  exact Fin.ext (Nat.zero_add _)

/-- Reading a matrix through the rectangle of its `k`-th block of columns gives that block. -/
theorem colBlk_emb {R W n N p : ℕ} {α : Type} (h : N = n * W) (X : (⟨2, ![R, N]⟩ : Shape).Idx → α) (k : Fin n) (hp : p = k.val * W)
    (inb : ∀ a, (![0, p] : Fin 2 → ℕ) a + (![R, W] : Fin 2 → ℕ) a ≤ (⟨2, ![R, N]⟩ : Shape).size a) :
    (fun j => X ((Rect.unit (s := ⟨2, ![R, N]⟩) ![0, p] ![R, W] inb).emb j)) = colBlk h X k := by
  subst hp
  funext j
  have h0 : (j 0).val < R := (j 0).isLt
  have h1 : (j 1).val < W := (j 1).isLt
  have hk : (k.val + 1) * W ≤ n * W := Nat.mul_le_mul_right _ k.isLt
  rw [Nat.add_mul, Nat.one_mul] at hk
  unfold colBlk
  rw [unit_emb inb j (by omega) (by omega)]
  congr 2
  exact Fin.ext (Nat.zero_add _)

/-- A whole matrix read through the rectangle of everything is itself. -/
theorem whole_emb {M N : ℕ} {α : Type} (X : (⟨2, ![M, N]⟩ : Shape).Idx → α)
    (inb : ∀ a, (![0, 0] : Fin 2 → ℕ) a + (![M, N] : Fin 2 → ℕ) a ≤ (⟨2, ![M, N]⟩ : Shape).size a) :
    (fun j => X ((Rect.unit (s := ⟨2, ![M, N]⟩) ![0, 0] ![M, N] inb).emb j)) = X := by
  funext j
  have h0 : (j 0).val < M := (j 0).isLt
  have h1 : (j 1).val < N := (j 1).isLt
  rw [unit_emb inb j (by omega) (by omega)]
  congr 1
  refine Eq.trans ?_ (eq_ix2 j).symm
  congr 1
  · exact Fin.ext (Nat.zero_add _)
  · exact Fin.ext (Nat.zero_add _)

/-- The `k`-th block of rows of a matrix put together from blocks of rows. -/
theorem rowBlk_ofRows {M H n N : ℕ} {α : Type} (h : M = n * H) (hH : 0 < H) (g : Fin n → (⟨2, ![H, N]⟩ : Shape).Idx → α) (k : Fin n) :
    rowBlk h (ofRows h hH g) k = g k := by
  funext j
  have h0 : (j 0).val < H := (j 0).isLt
  unfold rowBlk ofRows
  have e1 : (k.val * H + (j 0).val) / H = k.val := by
    rw [Nat.mul_comm, Nat.mul_add_div hH, Nat.div_eq_of_lt h0, Nat.add_zero]
  have e2 : (k.val * H + (j 0).val) % H = (j 0).val := by
    rw [Nat.mul_comm, Nat.mul_add_mod, Nat.mod_eq_of_lt h0]
  have ek : (⟨(k.val * H + (j 0).val) / H, by rw [e1]; exact k.isLt⟩ : Fin n) = k := Fin.ext e1
  have ej : (ix2 ⟨(k.val * H + (j 0).val) % H, Nat.mod_lt _ hH⟩ (j 1) : (⟨2, ![H, N]⟩ : Shape).Idx) = j := by
    refine Eq.trans ?_ (eq_ix2 j).symm
    congr 1
    exact Fin.ext e2
  exact (congrArg (fun i => g i _) ek).trans (congrArg (g k) ej)

/-- The `k`-th block of columns of a matrix put together from blocks of columns. -/
theorem colBlk_ofCols {R W n N : ℕ} {α : Type} (h : N = n * W) (hW : 0 < W) (g : Fin n → (⟨2, ![R, W]⟩ : Shape).Idx → α) (k : Fin n) :
    colBlk h (ofCols h hW g) k = g k := by
  funext j
  have h0 : (j 1).val < W := (j 1).isLt
  unfold colBlk ofCols
  have e1 : (k.val * W + (j 1).val) / W = k.val := by
    rw [Nat.mul_comm, Nat.mul_add_div hW, Nat.div_eq_of_lt h0, Nat.add_zero]
  have e2 : (k.val * W + (j 1).val) % W = (j 1).val := by
    rw [Nat.mul_comm, Nat.mul_add_mod, Nat.mod_eq_of_lt h0]
  have ek : (⟨(k.val * W + (j 1).val) / W, by rw [e1]; exact k.isLt⟩ : Fin n) = k := Fin.ext e1
  have ej : (ix2 (j 0) ⟨(k.val * W + (j 1).val) % W, Nat.mod_lt _ hW⟩ : (⟨2, ![R, W]⟩ : Shape).Idx) = j := by
    refine Eq.trans ?_ (eq_ix2 j).symm
    congr 1
    exact Fin.ext e2
  exact (congrArg (fun i => g i _) ek).trans (congrArg (g k) ej)

/-! ## The quantiser of one chunk of sixty-four rows -/

/-- Each row's largest magnitude. -/
def chunkMax (v : Vec F S64x5120 .bf16) : FVec F S64x1 .f32 := k0_pay1 v

/-- One step of the search for the exponent field: the bit `b` is taken when the float with the field so far and `b`
    still does not exceed `u`. -/
def fieldStep (u : FVec F S64x1 .f32) (b : BitVec 32) (f : IVec S64x1 32) : IVec S64x1 32 :=
  select (cmpf .oge u (bitcastToFloat .f32 (shli (addi f (broadcast S64x1 b)) (broadcast S64x1 23#32))))
    (addi f (broadcast S64x1 b)) f

/-- The search over the eight bits. -/
def field (u : FVec F S64x1 .f32) : IVec S64x1 32 :=
  fieldStep u 1#32 (fieldStep u 2#32 (fieldStep u 4#32 (fieldStep u 8#32 (fieldStep u 16#32 (fieldStep u 32#32
    (fieldStep u 64#32 (fieldStep u 128#32 (broadcast S64x1 0#32))))))))

/-- The scale's exponent, from a row's largest magnitude. -/
def expo (a : FVec F S64x1 .f32) : IVec S64x1 32 :=
  have f : IVec S64x1 32 := field (mulf a (broadcast S64x1 (Scalar.ofBits .f32 0x3B124925#32)))
  select (cmpf .oeq a (broadcast S64x1 (Scalar.ofBits .f32 0x00000000#32))) (broadcast S64x1 0#32)
    (select (ori (cmpi .eq f (broadcast S64x1 0#32)) (cmpi .eq f (broadcast S64x1 255#32))) (broadcast S64x1 0#32)
      (subi f (broadcast S64x1 126#32)))

/-- The power of two at an exponent: zero from -127 down, infinity from 128 up. -/
def pow2 (e : IVec S64x1 32) : FVec F S64x1 .f32 :=
  have b : IVec S64x1 32 := addi e (broadcast S64x1 127#32)
  bitcastToFloat .f32 (select (cmpi .sle b (broadcast S64x1 0#32)) (broadcast S64x1 0#32)
    (select (cmpi .sge b (broadcast S64x1 255#32)) (broadcast S64x1 2139095040#32) (shli b (broadcast S64x1 23#32))))

/-- A chunk's codes. -/
def chunkCodes (v : Vec F S64x5120 .bf16) : FVec F S64x5120 .fp8e4m3 :=
  shapeCast S64x5120 (truncf .fp8e4m3
    (minimumf (broadcast S64x5120 (Scalar.truncf .bf16 bitsLt_bf16_f32 (Scalar.ofBits .f32 0x43E00000#32)))
      (maximumf (broadcast S64x5120 (Scalar.truncf .bf16 bitsLt_bf16_f32 (Scalar.ofBits .f32 0xC3E00000#32)))
        (mulf v (broadcastTo S64x5120 (truncf .bf16 (pow2 (subi (broadcast S64x1 0#32) (expo (chunkMax v)))) bitsLt_bf16_f32)
          broadcasts_S64x1_S64x5120)))) bitsLt_fp8e4m3_bf16) shapeCasts_S64x5120_S64x5120

/-- A chunk's column of scales. -/
def chunkScale (v : Vec F S64x5120 .bf16) : FVec F S64x1 .f32 :=
  shapeCast S64x1 (pow2 (expo (chunkMax v))) shapeCasts_S64x1_S64x1

/-- A chunk's product with the low-rank factor. -/
def chunkT (v : Vec F S64x5120 .bf16) (a : Vec F S16x5120 .bf16) : FVec F S64x16 .bf16 := k0_pay17 v a

/-! ## The results -/

/-- All the codes. -/
def codesAll (X : Vec F S384x5120 .bf16) : Vec F S384x5120 .fp8e4m3 :=
  ofRows (n := 6) (H := 64) (by norm_num) (by norm_num) fun k => chunkCodes (rowBlk (by norm_num) X k)
/-- All the scales, as a column. -/
def scaleCol (X : Vec F S384x5120 .bf16) : Vec F S384x1 .f32 :=
  ofRows (n := 6) (H := 64) (by norm_num) (by norm_num) fun k => chunkScale (rowBlk (by norm_num) X k)
/-- All the scales, as a row. -/
def scaleRow (X : Vec F S384x5120 .bf16) : Vec F S1x384 .f32 :=
  ofCols (n := 3) (W := 128) (by norm_num) (by norm_num) fun k => k0_pay82 (rowBlk (by norm_num) (scaleCol X) k)
/-- The product with the low-rank factor. -/
def tAll (X : Vec F S384x5120 .bf16) (A : Vec F S16x5120 .bf16) : Vec F S384x16 .bf16 :=
  ofRows (n := 6) (H := 64) (by norm_num) (by norm_num) fun k => chunkT (rowBlk (by norm_num) X k) A
/-- One slab of 512 columns of `y`, from the codes, the slab's columns of the weights, the low-rank product, the slab's
    columns of the second factor, the scales and the slab's weight scales. -/
def slab (C : Vec F S384x5120 .fp8e4m3) (w : Vec F S5120x512 .fp8e4m3) (t : Vec F S384x16 .bf16) (b : Vec F S16x512 .bf16)
    (s : Vec F S384x1 .f32) (ws : Vec F S1x512 .f32) : FVec F S384x512 .bf16 := k0_pay103 C w t b s ws
/-- All of `y`. -/
def yAll (X : Vec F S384x5120 .bf16) (W : Vec F S5120x5120 .fp8e4m3) (WS : Vec F S1x5120 .f32) (A B : Vec F S16x5120 .bf16) :
    Vec F S384x5120 .bf16 :=
  ofCols (n := 10) (W := 512) (by norm_num) (by norm_num) fun k =>
    slab (codesAll X) (colBlk (by norm_num) W k) (tAll X A) (colBlk (by norm_num) B k) (scaleCol X) (colBlk (by norm_num) WS k)

end Cert.KernelIdeal.Hand
end
-- ==== Proof.KernelIdeal.Lists.lean ====
/-
  Hand-written. The pieces the body's run stores into its scratch buffers are blocks of the results of `Parts`: the codes,
  the scales, the low-rank product and the slabs of `y`.
-/
module
public import proofs.«01_k».proof.Proof.KernelIdeal.Run
public import proofs.«01_k».proof.Proof.KernelIdeal.Parts
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
variable {F : FTy → Type} [FloatOps F]

section Lists
variable {sig' : RefSig} {κ : Kind} {sp : Space} {s : Shape} {e : EltTy} {Val : EltTy → Type}

/-- A load through a rectangle the pieces cover, every piece agreeing with one function, reads that function there. -/
theorem readCov_of_pieces [∀ e, Nonempty (Val e)] (v : View sig' κ sp s e) (L : List (View.Piece Val s e)) (r : Rect s) (G : s.Idx → Val e)
    (hG : ∀ p ∈ L, ∀ x : p.1.shape.Idx, p.2 x = G (p.1.emb x)) (hc : ∀ y : s.Idx, ∃ p ∈ L, y ∈ p.1.set) :
    v.readCov L r.toLoadRect = fun j => G (r.emb j) := by
  rw [View.readCov_eq_canon_ld v L r hc]
  funext j
  show View.canon L (r.emb j) = _
  rw [← View.read_writes_junk_apply_eq_canon v (r.emb j) L]
  exact View.read_writes_apply_of_pieces v _ G L hG _ (hc _)

/-- A block copied out of a buffer whose pieces agree with one function reads that function there, when one piece is the block. -/
theorem block_of_pieces (v : View sig' κ sp s e) (f : v.ty.Contents Val) (L : List (View.Piece Val s e)) (r : Rect s) (G : s.Idx → Val e)
    (hG : ∀ p ∈ L, ∀ x : p.1.shape.Idx, p.2 x = G (p.1.emb x)) (hc : ∃ p ∈ L, p.1 = r) (x : r.shape.Idx) :
    v.read Val (v.writes Val f L) (r.emb x) = G (r.emb x) := by
  refine View.read_writes_apply_of_pieces v _ G L hG _ ?_
  obtain ⟨p, hp, rfl⟩ := hc
  exact ⟨p, hp, by rw [← Rect.map_emb_univ]; exact Finset.mem_map_of_mem _ (Finset.mem_univ _)⟩
end Lists

variable (c : Dev nD)
  (fHx : Buf (Elt F) (View.loc (c.tc : Thread nD τ) (Memref.whole main_v0).view))
  (fHw : Buf (Elt F) (View.loc (c.tc : Thread nD τ) (Memref.whole main_arg1).view))
  (fHws : Buf (Elt F) (View.loc (c.tc : Thread nD τ) (Memref.whole main_v1).view))
  (fHa : Buf (Elt F) (View.loc (c.tc : Thread nD τ) (Memref.whole main_v2).view))
  (fHb : Buf (Elt F) (View.loc (c.tc : Thread nD τ) (Memref.whole main_arg4).view))
  (fSy : Buf (Elt F) (View.loc (c.tc : Thread nD τ) (Memref.whole cc0_scratch5).view))
  (fSc : Buf (Elt F) (View.loc (c.tc : Thread nD τ) (Memref.whole cc0_scratch6).view))
  (fSrow : Buf (Elt F) (View.loc (c.tc : Thread nD τ) (Memref.whole cc0_scratch8).view))

/-! ## The chunks of `x` -/

theorem x_chunk0 : kernelRun.sl.v116 c fHx = rowBlk (n := 6) (H := 64) (by norm_num) fHx 0 := by
  unfold kernelRun.sl.v116
  rw [readCov_of_pieces _ _ _ (G := fHx)]
  · exact rowBlk_emb (n := 6) (H := 64) (by norm_num) fHx 0 (by rfl) _
  · repeat refine List.forall_mem_cons.mpr ⟨fun _ => rfl, ?_⟩
    exact List.forall_mem_nil _
  · exact View.cover_of_tiledL _ S64x5120.size (by sl_kernel_rfl)

theorem x_chunk1 : kernelRun.sl.v263 c fHx = rowBlk (n := 6) (H := 64) (by norm_num) fHx 1 := by
  unfold kernelRun.sl.v263
  rw [readCov_of_pieces _ _ _ (G := fHx)]
  · exact rowBlk_emb (n := 6) (H := 64) (by norm_num) fHx 1 (by rfl) _
  · repeat refine List.forall_mem_cons.mpr ⟨fun _ => rfl, ?_⟩
    exact List.forall_mem_nil _
  · exact View.cover_of_tiledL _ S64x5120.size (by sl_kernel_rfl)

theorem x_chunk2 : kernelRun.sl.v410 c fHx = rowBlk (n := 6) (H := 64) (by norm_num) fHx 2 := by
  unfold kernelRun.sl.v410
  rw [readCov_of_pieces _ _ _ (G := fHx)]
  · exact rowBlk_emb (n := 6) (H := 64) (by norm_num) fHx 2 (by rfl) _
  · repeat refine List.forall_mem_cons.mpr ⟨fun _ => rfl, ?_⟩
    exact List.forall_mem_nil _
  · exact View.cover_of_tiledL _ S64x5120.size (by sl_kernel_rfl)

theorem x_chunk3 : kernelRun.sl.v557 c fHx = rowBlk (n := 6) (H := 64) (by norm_num) fHx 3 := by
  unfold kernelRun.sl.v557
  rw [readCov_of_pieces _ _ _ (G := fHx)]
  · exact rowBlk_emb (n := 6) (H := 64) (by norm_num) fHx 3 (by rfl) _
  · repeat refine List.forall_mem_cons.mpr ⟨fun _ => rfl, ?_⟩
    exact List.forall_mem_nil _
  · exact View.cover_of_tiledL _ S64x5120.size (by sl_kernel_rfl)

theorem x_chunk4 : kernelRun.sl.v704 c fHx = rowBlk (n := 6) (H := 64) (by norm_num) fHx 4 := by
  unfold kernelRun.sl.v704
  rw [readCov_of_pieces _ _ _ (G := fHx)]
  · exact rowBlk_emb (n := 6) (H := 64) (by norm_num) fHx 4 (by rfl) _
  · repeat refine List.forall_mem_cons.mpr ⟨fun _ => rfl, ?_⟩
    exact List.forall_mem_nil _
  · exact View.cover_of_tiledL _ S64x5120.size (by sl_kernel_rfl)

theorem x_chunk5 : kernelRun.sl.v851 c fHx = rowBlk (n := 6) (H := 64) (by norm_num) fHx 5 := by
  unfold kernelRun.sl.v851
  rw [readCov_of_pieces _ _ _ (G := fHx)]
  · exact rowBlk_emb (n := 6) (H := 64) (by norm_num) fHx 5 (by rfl) _
  · repeat refine List.forall_mem_cons.mpr ⟨fun _ => rfl, ?_⟩
    exact List.forall_mem_nil _
  · exact View.cover_of_tiledL _ S64x5120.size (by sl_kernel_rfl)

/-! ## The chunks' codes, scales and low-rank products -/

theorem codes_chunk0 : k0_pay15 (kernelRun.sl.r_6 c fHx) = chunkCodes (rowBlk (n := 6) (H := 64) (by norm_num) fHx 0) := by
  rw [← x_chunk0 c fHx]; rfl
theorem scale_chunk0 : k0_pay16 (kernelRun.sl.r_7 c fHx) (kernelRun.sl.r_8 c fHx) (kernelRun.sl.r_9 c fHx) = chunkScale (rowBlk (n := 6) (H := 64) (by norm_num) fHx 0) := by
  rw [← x_chunk0 c fHx]; rfl
theorem codes_chunk1 : k0_pay28 (kernelRun.sl.v263 c fHx) (kernelRun.sl.r_15 c fHx) (kernelRun.sl.r_16 c fHx) k0_pay27 = chunkCodes (rowBlk (n := 6) (H := 64) (by norm_num) fHx 1) := by
  rw [← x_chunk1 c fHx]; rfl
theorem scale_chunk1 : k0_pay29 (kernelRun.sl.r_14 c fHx) = chunkScale (rowBlk (n := 6) (H := 64) (by norm_num) fHx 1) := by
  rw [← x_chunk1 c fHx]; rfl
theorem codes_chunk2 : k0_pay41 (kernelRun.sl.r_25 c fHx) = chunkCodes (rowBlk (n := 6) (H := 64) (by norm_num) fHx 2) := by
  rw [← x_chunk2 c fHx]; rfl
theorem scale_chunk2 : k0_pay42 (kernelRun.sl.r_24 c fHx) k0_pay40 = chunkScale (rowBlk (n := 6) (H := 64) (by norm_num) fHx 2) := by
  rw [← x_chunk2 c fHx]; rfl
theorem codes_chunk3 : k0_pay50 (kernelRun.sl.v557 c fHx) (kernelRun.sl.r_30 c fHx) 0#32 = chunkCodes (rowBlk (n := 6) (H := 64) (by norm_num) fHx 3) := by
  rw [← x_chunk3 c fHx]; rfl
theorem scale_chunk3 : k0_pay51 (kernelRun.sl.r_31 c fHx) = chunkScale (rowBlk (n := 6) (H := 64) (by norm_num) fHx 3) := by
  rw [← x_chunk3 c fHx]; rfl
theorem codes_chunk4 : k0_pay61 (kernelRun.sl.r_39 c fHx) kernelRun.sl.cst_420 = chunkCodes (rowBlk (n := 6) (H := 64) (by norm_num) fHx 4) := by
  rw [← x_chunk4 c fHx]; rfl
theorem scale_chunk4 : k0_pay62 (kernelRun.sl.r_38 c fHx) = chunkScale (rowBlk (n := 6) (H := 64) (by norm_num) fHx 4) := by
  rw [← x_chunk4 c fHx]; rfl
theorem codes_chunk5 : k0_pay78 (kernelRun.sl.r_46 c fHx) = chunkCodes (rowBlk (n := 6) (H := 64) (by norm_num) fHx 5) := by
  rw [← x_chunk5 c fHx]; rfl
theorem scale_chunk5 : k0_pay79 (kernelRun.sl.r_47 c fHx) (kernelRun.sl.r_48 c fHx) k0_pay77 = chunkScale (rowBlk (n := 6) (H := 64) (by norm_num) fHx 5) := by
  rw [← x_chunk5 c fHx]; rfl

theorem a_whole : kernelRun.sl.v253 c fHa = fHa := by
  unfold kernelRun.sl.v253
  rw [readCov_of_pieces _ _ _ (G := fHa)]
  · exact whole_emb fHa _
  · refine List.forall_mem_cons.mpr ⟨fun x => ?_, fun _ h => absurd h List.not_mem_nil⟩
    show fHa x = fHa ((Rect.whole _).emb x)
    rw [Rect.emb_whole_apply]
  · exact View.cover_of_tiledL _ S16x5120.size (by sl_kernel_rfl)

theorem t_chunk0 : k0_pay17 (kernelRun.sl.v116 c fHx) (kernelRun.sl.v253 c fHa) = chunkT (rowBlk (n := 6) (H := 64) (by norm_num) fHx 0) fHa := by
  rw [← x_chunk0 c fHx]; refine Eq.trans ?_ (congrArg (chunkT _) (a_whole c fHa)); rfl
theorem t_chunk1 : k0_pay31 (kernelRun.sl.r_17 c fHx fHa) = chunkT (rowBlk (n := 6) (H := 64) (by norm_num) fHx 1) fHa := by
  rw [← x_chunk1 c fHx]; refine Eq.trans ?_ (congrArg (chunkT _) (a_whole c fHa)); rfl
theorem t_chunk2 : k0_pay43 (kernelRun.sl.v410 c fHx) (kernelRun.sl.v253 c fHa) = chunkT (rowBlk (n := 6) (H := 64) (by norm_num) fHx 2) fHa := by
  rw [← x_chunk2 c fHx]; refine Eq.trans ?_ (congrArg (chunkT _) (a_whole c fHa)); rfl
theorem t_chunk3 : k0_pay52 (kernelRun.sl.v557 c fHx) (kernelRun.sl.v253 c fHa) = chunkT (rowBlk (n := 6) (H := 64) (by norm_num) fHx 3) fHa := by
  rw [← x_chunk3 c fHx]; refine Eq.trans ?_ (congrArg (chunkT _) (a_whole c fHa)); rfl
theorem t_chunk4 : k0_pay63 (kernelRun.sl.v704 c fHx) (kernelRun.sl.v253 c fHa) = chunkT (rowBlk (n := 6) (H := 64) (by norm_num) fHx 4) fHa := by
  rw [← x_chunk4 c fHx]; refine Eq.trans ?_ (congrArg (chunkT _) (a_whole c fHa)); rfl
theorem t_chunk5 : k0_pay80 (kernelRun.sl.v851 c fHx) (kernelRun.sl.v253 c fHa) = chunkT (rowBlk (n := 6) (H := 64) (by norm_num) fHx 5) fHa := by
  rw [← x_chunk5 c fHx]; refine Eq.trans ?_ (congrArg (chunkT _) (a_whole c fHa)); rfl

/-- A piece that is the `k`-th block of rows of a matrix put together from blocks of rows. -/
theorem piece_rows {M H n N o : ℕ} {α : Type} (h : M = n * H) (hH : 0 < H) (g : Fin n → (⟨2, ![H, N]⟩ : Shape).Idx → α) (k : Fin n)
    (ho : o = k.val * H) (inb : ∀ a, (![o, 0] : Fin 2 → ℕ) a + (![H, N] : Fin 2 → ℕ) a ≤ (⟨2, ![M, N]⟩ : Shape).size a)
    (w : (⟨2, ![H, N]⟩ : Shape).Idx → α) (hw : w = g k) (x : (⟨2, ![H, N]⟩ : Shape).Idx) :
    w x = ofRows h hH g ((Rect.unit (s := ⟨2, ![M, N]⟩) ![o, 0] ![H, N] inb).emb x) := by
  have e := congrFun (rowBlk_emb h (ofRows h hH g) k ho inb) x
  rw [rowBlk_ofRows] at e
  rw [hw]; exact e.symm

/-- A piece that is the `k`-th block of columns of a matrix put together from blocks of columns. -/
theorem piece_cols {Q W n N p : ℕ} {α : Type} (h : N = n * W) (hW : 0 < W) (g : Fin n → (⟨2, ![Q, W]⟩ : Shape).Idx → α) (k : Fin n)
    (hp : p = k.val * W) (inb : ∀ a, (![0, p] : Fin 2 → ℕ) a + (![Q, W] : Fin 2 → ℕ) a ≤ (⟨2, ![Q, N]⟩ : Shape).size a)
    (w : (⟨2, ![Q, W]⟩ : Shape).Idx → α) (hw : w = g k) (x : (⟨2, ![Q, W]⟩ : Shape).Idx) :
    w x = ofCols h hW g ((Rect.unit (s := ⟨2, ![Q, N]⟩) ![0, p] ![Q, W] inb).emb x) := by
  have e := congrFun (colBlk_emb h (ofCols h hW g) k hp inb) x
  rw [colBlk_ofCols] at e
  rw [hw]; exact e.symm

/-- The pieces stored into the codes are blocks of the codes. -/
theorem codes_pieces1 : ∀ p ∈ kernelRun.sl.Sc_1 c fHx, ∀ x : p.1.shape.Idx, p.2 x = codesAll fHx (p.1.emb x) := by
  unfold kernelRun.sl.Sc_1
  exact List.forall_mem_cons.mpr ⟨fun x => piece_rows (by norm_num) (by norm_num) _ 0 (by rfl) inb_S384x5120_S64x5120_0_0 _ (codes_chunk0 c fHx) x,
    (fun _ h => absurd h List.not_mem_nil)⟩
theorem codes_pieces2 : ∀ p ∈ kernelRun.sl.Sc_2 c fHx, ∀ x : p.1.shape.Idx, p.2 x = codesAll fHx (p.1.emb x) := by
  unfold kernelRun.sl.Sc_2
  exact List.forall_mem_cons.mpr ⟨fun x => piece_rows (by norm_num) (by norm_num) _ 1 (by rfl) inb_S384x5120_S64x5120_64_0 _ (codes_chunk1 c fHx) x,
    (codes_pieces1 c fHx)⟩
theorem codes_pieces3 : ∀ p ∈ kernelRun.sl.Sc_3 c fHx, ∀ x : p.1.shape.Idx, p.2 x = codesAll fHx (p.1.emb x) := by
  unfold kernelRun.sl.Sc_3
  exact List.forall_mem_cons.mpr ⟨fun x => piece_rows (by norm_num) (by norm_num) _ 2 (by rfl) inb_S384x5120_S64x5120_128_0 _ (codes_chunk2 c fHx) x,
    (codes_pieces2 c fHx)⟩
theorem codes_pieces4 : ∀ p ∈ kernelRun.sl.Sc_4 c fHx, ∀ x : p.1.shape.Idx, p.2 x = codesAll fHx (p.1.emb x) := by
  unfold kernelRun.sl.Sc_4
  exact List.forall_mem_cons.mpr ⟨fun x => piece_rows (by norm_num) (by norm_num) _ 3 (by rfl) inb_S384x5120_S64x5120_192_0 _ (codes_chunk3 c fHx) x,
    (codes_pieces3 c fHx)⟩
theorem codes_pieces5 : ∀ p ∈ kernelRun.sl.Sc_5 c fHx, ∀ x : p.1.shape.Idx, p.2 x = codesAll fHx (p.1.emb x) := by
  unfold kernelRun.sl.Sc_5
  exact List.forall_mem_cons.mpr ⟨fun x => piece_rows (by norm_num) (by norm_num) _ 4 (by rfl) inb_S384x5120_S64x5120_256_0 _ (codes_chunk4 c fHx) x,
    (codes_pieces4 c fHx)⟩
theorem codes_pieces6 : ∀ p ∈ kernelRun.sl.Sc_6 c fHx, ∀ x : p.1.shape.Idx, p.2 x = codesAll fHx (p.1.emb x) := by
  unfold kernelRun.sl.Sc_6
  exact List.forall_mem_cons.mpr ⟨fun x => piece_rows (by norm_num) (by norm_num) _ 5 (by rfl) inb_S384x5120_S64x5120_320_0 _ (codes_chunk5 c fHx) x,
    (codes_pieces5 c fHx)⟩
theorem codes_cover : ∀ y : (⟨2, ![384, 5120]⟩ : Shape).Idx, ∃ p ∈ kernelRun.sl.Sc_6 c fHx, y ∈ p.1.set :=
  View.cover_of_tiledL _ (![64, 5120] : Fin 2 → ℕ) (by sl_kernel_rfl)

/-- The pieces stored into the column of scales are blocks of it. -/
theorem scale_pieces1 : ∀ p ∈ kernelRun.sl.Scol_1 c fHx, ∀ x : p.1.shape.Idx, p.2 x = scaleCol fHx (p.1.emb x) := by
  unfold kernelRun.sl.Scol_1
  exact List.forall_mem_cons.mpr ⟨fun x => piece_rows (by norm_num) (by norm_num) _ 0 (by rfl) inb_S384x1_S64x1_0_0 _ (scale_chunk0 c fHx) x,
    (fun _ h => absurd h List.not_mem_nil)⟩
theorem scale_pieces2 : ∀ p ∈ kernelRun.sl.Scol_2 c fHx, ∀ x : p.1.shape.Idx, p.2 x = scaleCol fHx (p.1.emb x) := by
  unfold kernelRun.sl.Scol_2
  exact List.forall_mem_cons.mpr ⟨fun x => piece_rows (by norm_num) (by norm_num) _ 1 (by rfl) inb_S384x1_S64x1_64_0 _ (scale_chunk1 c fHx) x,
    (scale_pieces1 c fHx)⟩
theorem scale_pieces3 : ∀ p ∈ kernelRun.sl.Scol_3 c fHx, ∀ x : p.1.shape.Idx, p.2 x = scaleCol fHx (p.1.emb x) := by
  unfold kernelRun.sl.Scol_3
  exact List.forall_mem_cons.mpr ⟨fun x => piece_rows (by norm_num) (by norm_num) _ 2 (by rfl) inb_S384x1_S64x1_128_0 _ (scale_chunk2 c fHx) x,
    (scale_pieces2 c fHx)⟩
theorem scale_pieces4 : ∀ p ∈ kernelRun.sl.Scol_4 c fHx, ∀ x : p.1.shape.Idx, p.2 x = scaleCol fHx (p.1.emb x) := by
  unfold kernelRun.sl.Scol_4
  exact List.forall_mem_cons.mpr ⟨fun x => piece_rows (by norm_num) (by norm_num) _ 3 (by rfl) inb_S384x1_S64x1_192_0 _ (scale_chunk3 c fHx) x,
    (scale_pieces3 c fHx)⟩
theorem scale_pieces5 : ∀ p ∈ kernelRun.sl.Scol_5 c fHx, ∀ x : p.1.shape.Idx, p.2 x = scaleCol fHx (p.1.emb x) := by
  unfold kernelRun.sl.Scol_5
  exact List.forall_mem_cons.mpr ⟨fun x => piece_rows (by norm_num) (by norm_num) _ 4 (by rfl) inb_S384x1_S64x1_256_0 _ (scale_chunk4 c fHx) x,
    (scale_pieces4 c fHx)⟩
theorem scale_pieces6 : ∀ p ∈ kernelRun.sl.Scol_6 c fHx, ∀ x : p.1.shape.Idx, p.2 x = scaleCol fHx (p.1.emb x) := by
  unfold kernelRun.sl.Scol_6
  exact List.forall_mem_cons.mpr ⟨fun x => piece_rows (by norm_num) (by norm_num) _ 5 (by rfl) inb_S384x1_S64x1_320_0 _ (scale_chunk5 c fHx) x,
    (scale_pieces5 c fHx)⟩
theorem scale_cover : ∀ y : (⟨2, ![384, 1]⟩ : Shape).Idx, ∃ p ∈ kernelRun.sl.Scol_6 c fHx, y ∈ p.1.set :=
  View.cover_of_tiledL _ (![64, 1] : Fin 2 → ℕ) (by sl_kernel_rfl)

/-- The pieces stored into the low-rank product are blocks of it. -/
theorem t_pieces1 : ∀ p ∈ kernelRun.sl.St_1 c fHx fHa, ∀ x : p.1.shape.Idx, p.2 x = tAll fHx fHa (p.1.emb x) := by
  unfold kernelRun.sl.St_1
  exact List.forall_mem_cons.mpr ⟨fun x => piece_rows (by norm_num) (by norm_num) _ 0 (by rfl) inb_S384x16_S64x16_0_0 _ (t_chunk0 c fHx fHa) x,
    (fun _ h => absurd h List.not_mem_nil)⟩
theorem t_pieces2 : ∀ p ∈ kernelRun.sl.St_2 c fHx fHa, ∀ x : p.1.shape.Idx, p.2 x = tAll fHx fHa (p.1.emb x) := by
  unfold kernelRun.sl.St_2
  exact List.forall_mem_cons.mpr ⟨fun x => piece_rows (by norm_num) (by norm_num) _ 1 (by rfl) inb_S384x16_S64x16_64_0 _ (t_chunk1 c fHx fHa) x,
    (t_pieces1 c fHx fHa)⟩
theorem t_pieces3 : ∀ p ∈ kernelRun.sl.St_3 c fHx fHa, ∀ x : p.1.shape.Idx, p.2 x = tAll fHx fHa (p.1.emb x) := by
  unfold kernelRun.sl.St_3
  exact List.forall_mem_cons.mpr ⟨fun x => piece_rows (by norm_num) (by norm_num) _ 2 (by rfl) inb_S384x16_S64x16_128_0 _ (t_chunk2 c fHx fHa) x,
    (t_pieces2 c fHx fHa)⟩
theorem t_pieces4 : ∀ p ∈ kernelRun.sl.St_4 c fHx fHa, ∀ x : p.1.shape.Idx, p.2 x = tAll fHx fHa (p.1.emb x) := by
  unfold kernelRun.sl.St_4
  exact List.forall_mem_cons.mpr ⟨fun x => piece_rows (by norm_num) (by norm_num) _ 3 (by rfl) inb_S384x16_S64x16_192_0 _ (t_chunk3 c fHx fHa) x,
    (t_pieces3 c fHx fHa)⟩
theorem t_pieces5 : ∀ p ∈ kernelRun.sl.St_5 c fHx fHa, ∀ x : p.1.shape.Idx, p.2 x = tAll fHx fHa (p.1.emb x) := by
  unfold kernelRun.sl.St_5
  exact List.forall_mem_cons.mpr ⟨fun x => piece_rows (by norm_num) (by norm_num) _ 4 (by rfl) inb_S384x16_S64x16_256_0 _ (t_chunk4 c fHx fHa) x,
    (t_pieces4 c fHx fHa)⟩
theorem t_pieces6 : ∀ p ∈ kernelRun.sl.St_6 c fHx fHa, ∀ x : p.1.shape.Idx, p.2 x = tAll fHx fHa (p.1.emb x) := by
  unfold kernelRun.sl.St_6
  exact List.forall_mem_cons.mpr ⟨fun x => piece_rows (by norm_num) (by norm_num) _ 5 (by rfl) inb_S384x16_S64x16_320_0 _ (t_chunk5 c fHx fHa) x,
    (t_pieces5 c fHx fHa)⟩
theorem t_cover : ∀ y : (⟨2, ![384, 16]⟩ : Shape).Idx, ∃ p ∈ kernelRun.sl.St_6 c fHx fHa, y ∈ p.1.set :=
  View.cover_of_tiledL _ (![64, 16] : Fin 2 → ℕ) (by sl_kernel_rfl)

theorem codes_whole : kernelRun.sl.v1039 c fHx = codesAll fHx := by
  unfold kernelRun.sl.v1039
  rw [readCov_of_pieces _ _ _ (G := codesAll fHx) (codes_pieces6 c fHx) (codes_cover c fHx)]
  exact whole_emb (codesAll fHx) _
theorem scale_whole : kernelRun.sl.v1045 c fHx = scaleCol fHx := by
  unfold kernelRun.sl.v1045
  rw [readCov_of_pieces _ _ _ (G := scaleCol fHx) (scale_pieces6 c fHx) (scale_cover c fHx)]
  exact whole_emb (scaleCol fHx) _
theorem t_whole : kernelRun.sl.v1042 c fHx fHa = tAll fHx fHa := by
  unfold kernelRun.sl.v1042
  rw [readCov_of_pieces _ _ _ (G := tAll fHx fHa) (t_pieces6 c fHx fHa) (t_cover c fHx fHa)]
  exact whole_emb (tAll fHx fHa) _

/-! ## The row of scales -/

theorem scale_block0 : kernelRun.sl.v997 c fHx = rowBlk (n := 3) (H := 128) (by norm_num) (scaleCol fHx) 0 := by
  unfold kernelRun.sl.v997
  rw [readCov_of_pieces _ _ _ (G := scaleCol fHx) (scale_pieces6 c fHx) (scale_cover c fHx)]
  exact rowBlk_emb (n := 3) (H := 128) (by norm_num) (scaleCol fHx) 0 (by rfl) _
theorem scale_block1 : kernelRun.sl.v1007 c fHx = rowBlk (n := 3) (H := 128) (by norm_num) (scaleCol fHx) 1 := by
  unfold kernelRun.sl.v1007
  rw [readCov_of_pieces _ _ _ (G := scaleCol fHx) (scale_pieces6 c fHx) (scale_cover c fHx)]
  exact rowBlk_emb (n := 3) (H := 128) (by norm_num) (scaleCol fHx) 1 (by rfl) _
theorem scale_block2 : kernelRun.sl.v1017 c fHx = rowBlk (n := 3) (H := 128) (by norm_num) (scaleCol fHx) 2 := by
  unfold kernelRun.sl.v1017
  rw [readCov_of_pieces _ _ _ (G := scaleCol fHx) (scale_pieces6 c fHx) (scale_cover c fHx)]
  exact rowBlk_emb (n := 3) (H := 128) (by norm_num) (scaleCol fHx) 2 (by rfl) _
theorem row_block0 : k0_pay82 (kernelRun.sl.v997 c fHx) = k0_pay82 (rowBlk (n := 3) (H := 128) (by norm_num) (scaleCol fHx) 0) := by
  rw [← scale_block0 c fHx]
theorem row_block1 : k0_pay84 (kernelRun.sl.r_49 c fHx) = k0_pay82 (rowBlk (n := 3) (H := 128) (by norm_num) (scaleCol fHx) 1) := by
  rw [← scale_block1 c fHx]; rfl
theorem row_block2 : k0_pay85 k0_pay81 (kernelRun.sl.v1017 c fHx) = k0_pay82 (rowBlk (n := 3) (H := 128) (by norm_num) (scaleCol fHx) 2) := by
  rw [← scale_block2 c fHx]; rfl
theorem row_pieces : ∀ p ∈ kernelRun.sl.Srow_3 c fHx, ∀ x : p.1.shape.Idx, p.2 x = scaleRow fHx (p.1.emb x) := by
  unfold kernelRun.sl.Srow_3 kernelRun.sl.Srow_1
  exact List.forall_mem_cons.mpr ⟨fun x => piece_cols (by norm_num) (by norm_num) _ 2 (by rfl) inb_S1x384_S1x128_0_256 _ (row_block2 c fHx) x,
    List.forall_mem_cons.mpr ⟨fun x => piece_cols (by norm_num) (by norm_num) _ 1 (by rfl) inb_S1x384_S1x128_0_128 _ (row_block1 c fHx) x,
    List.forall_mem_cons.mpr ⟨fun x => piece_cols (by norm_num) (by norm_num) _ 0 (by rfl) inb_S1x384_S1x128_0_0 _ (row_block0 c fHx) x,
    fun _ h => absurd h List.not_mem_nil⟩⟩⟩
theorem row_cover : ∀ y : (⟨2, ![1, 384]⟩ : Shape).Idx, ∃ p ∈ kernelRun.sl.Srow_3 c fHx, y ∈ p.1.set :=
  View.cover_of_tiledL _ (![1, 128] : Fin 2 → ℕ) (by sl_kernel_rfl)

/-! ## The slabs -/

theorem w_slab0 : kernelRun.sl.v1040 c fHw = colBlk (n := 10) (W := 512) (by norm_num) fHw 0 := by
  unfold kernelRun.sl.v1040
  rw [readCov_of_pieces _ _ _ (G := fHw)]
  · exact colBlk_emb (n := 10) (W := 512) (by norm_num) fHw 0 (by rfl) _
  · repeat refine List.forall_mem_cons.mpr ⟨fun _ => rfl, ?_⟩
    exact fun _ h => absurd h List.not_mem_nil
  · exact View.cover_of_tiledL _ S2560x512.size (by sl_kernel_rfl)
theorem b_slab0 : kernelRun.sl.v1043 c fHb = colBlk (n := 10) (W := 512) (by norm_num) fHb 0 := by
  unfold kernelRun.sl.v1043
  rw [readCov_of_pieces _ _ _ (G := fHb)]
  · exact colBlk_emb (n := 10) (W := 512) (by norm_num) fHb 0 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab0 : kernelRun.sl.v1048 c fHws = colBlk (n := 10) (W := 512) (by norm_num) fHws 0 := by
  unfold kernelRun.sl.v1048
  rw [readCov_of_pieces _ _ _ (G := fHws)]
  · exact colBlk_emb (n := 10) (W := 512) (by norm_num) fHws 0 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab1 : kernelRun.sl.v1091 c fHw = colBlk (n := 10) (W := 512) (by norm_num) fHw 1 := by
  unfold kernelRun.sl.v1091
  rw [readCov_of_pieces _ _ _ (G := fHw)]
  · exact colBlk_emb (n := 10) (W := 512) (by norm_num) fHw 1 (by rfl) _
  · repeat refine List.forall_mem_cons.mpr ⟨fun _ => rfl, ?_⟩
    exact fun _ h => absurd h List.not_mem_nil
  · exact View.cover_of_tiledL _ S2560x512.size (by sl_kernel_rfl)
theorem b_slab1 : kernelRun.sl.v1094 c fHb = colBlk (n := 10) (W := 512) (by norm_num) fHb 1 := by
  unfold kernelRun.sl.v1094
  rw [readCov_of_pieces _ _ _ (G := fHb)]
  · exact colBlk_emb (n := 10) (W := 512) (by norm_num) fHb 1 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab1 : kernelRun.sl.v1099 c fHws = colBlk (n := 10) (W := 512) (by norm_num) fHws 1 := by
  unfold kernelRun.sl.v1099
  rw [readCov_of_pieces _ _ _ (G := fHws)]
  · exact colBlk_emb (n := 10) (W := 512) (by norm_num) fHws 1 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab2 : kernelRun.sl.v1122 c fHw = colBlk (n := 10) (W := 512) (by norm_num) fHw 2 := by
  unfold kernelRun.sl.v1122
  rw [readCov_of_pieces _ _ _ (G := fHw)]
  · exact colBlk_emb (n := 10) (W := 512) (by norm_num) fHw 2 (by rfl) _
  · repeat refine List.forall_mem_cons.mpr ⟨fun _ => rfl, ?_⟩
    exact fun _ h => absurd h List.not_mem_nil
  · exact View.cover_of_tiledL _ S2560x512.size (by sl_kernel_rfl)
theorem b_slab2 : kernelRun.sl.v1125 c fHb = colBlk (n := 10) (W := 512) (by norm_num) fHb 2 := by
  unfold kernelRun.sl.v1125
  rw [readCov_of_pieces _ _ _ (G := fHb)]
  · exact colBlk_emb (n := 10) (W := 512) (by norm_num) fHb 2 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab2 : kernelRun.sl.v1130 c fHws = colBlk (n := 10) (W := 512) (by norm_num) fHws 2 := by
  unfold kernelRun.sl.v1130
  rw [readCov_of_pieces _ _ _ (G := fHws)]
  · exact colBlk_emb (n := 10) (W := 512) (by norm_num) fHws 2 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab3 : kernelRun.sl.v1153 c fHw = colBlk (n := 10) (W := 512) (by norm_num) fHw 3 := by
  unfold kernelRun.sl.v1153
  rw [readCov_of_pieces _ _ _ (G := fHw)]
  · exact colBlk_emb (n := 10) (W := 512) (by norm_num) fHw 3 (by rfl) _
  · repeat refine List.forall_mem_cons.mpr ⟨fun _ => rfl, ?_⟩
    exact fun _ h => absurd h List.not_mem_nil
  · exact View.cover_of_tiledL _ S2560x512.size (by sl_kernel_rfl)
theorem b_slab3 : kernelRun.sl.v1156 c fHb = colBlk (n := 10) (W := 512) (by norm_num) fHb 3 := by
  unfold kernelRun.sl.v1156
  rw [readCov_of_pieces _ _ _ (G := fHb)]
  · exact colBlk_emb (n := 10) (W := 512) (by norm_num) fHb 3 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab3 : kernelRun.sl.v1161 c fHws = colBlk (n := 10) (W := 512) (by norm_num) fHws 3 := by
  unfold kernelRun.sl.v1161
  rw [readCov_of_pieces _ _ _ (G := fHws)]
  · exact colBlk_emb (n := 10) (W := 512) (by norm_num) fHws 3 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab4 : kernelRun.sl.v1184 c fHw = colBlk (n := 10) (W := 512) (by norm_num) fHw 4 := by
  unfold kernelRun.sl.v1184
  rw [readCov_of_pieces _ _ _ (G := fHw)]
  · exact colBlk_emb (n := 10) (W := 512) (by norm_num) fHw 4 (by rfl) _
  · repeat refine List.forall_mem_cons.mpr ⟨fun _ => rfl, ?_⟩
    exact fun _ h => absurd h List.not_mem_nil
  · exact View.cover_of_tiledL _ S2560x512.size (by sl_kernel_rfl)
theorem b_slab4 : kernelRun.sl.v1187 c fHb = colBlk (n := 10) (W := 512) (by norm_num) fHb 4 := by
  unfold kernelRun.sl.v1187
  rw [readCov_of_pieces _ _ _ (G := fHb)]
  · exact colBlk_emb (n := 10) (W := 512) (by norm_num) fHb 4 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab4 : kernelRun.sl.v1192 c fHws = colBlk (n := 10) (W := 512) (by norm_num) fHws 4 := by
  unfold kernelRun.sl.v1192
  rw [readCov_of_pieces _ _ _ (G := fHws)]
  · exact colBlk_emb (n := 10) (W := 512) (by norm_num) fHws 4 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab5 : kernelRun.sl.v1215 c fHw = colBlk (n := 10) (W := 512) (by norm_num) fHw 5 := by
  unfold kernelRun.sl.v1215
  rw [readCov_of_pieces _ _ _ (G := fHw)]
  · exact colBlk_emb (n := 10) (W := 512) (by norm_num) fHw 5 (by rfl) _
  · repeat refine List.forall_mem_cons.mpr ⟨fun _ => rfl, ?_⟩
    exact fun _ h => absurd h List.not_mem_nil
  · exact View.cover_of_tiledL _ S2560x512.size (by sl_kernel_rfl)
theorem b_slab5 : kernelRun.sl.v1218 c fHb = colBlk (n := 10) (W := 512) (by norm_num) fHb 5 := by
  unfold kernelRun.sl.v1218
  rw [readCov_of_pieces _ _ _ (G := fHb)]
  · exact colBlk_emb (n := 10) (W := 512) (by norm_num) fHb 5 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab5 : kernelRun.sl.v1223 c fHws = colBlk (n := 10) (W := 512) (by norm_num) fHws 5 := by
  unfold kernelRun.sl.v1223
  rw [readCov_of_pieces _ _ _ (G := fHws)]
  · exact colBlk_emb (n := 10) (W := 512) (by norm_num) fHws 5 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab6 : kernelRun.sl.v1246 c fHw = colBlk (n := 10) (W := 512) (by norm_num) fHw 6 := by
  unfold kernelRun.sl.v1246
  rw [readCov_of_pieces _ _ _ (G := fHw)]
  · exact colBlk_emb (n := 10) (W := 512) (by norm_num) fHw 6 (by rfl) _
  · repeat refine List.forall_mem_cons.mpr ⟨fun _ => rfl, ?_⟩
    exact fun _ h => absurd h List.not_mem_nil
  · exact View.cover_of_tiledL _ S2560x512.size (by sl_kernel_rfl)
theorem b_slab6 : kernelRun.sl.v1249 c fHb = colBlk (n := 10) (W := 512) (by norm_num) fHb 6 := by
  unfold kernelRun.sl.v1249
  rw [readCov_of_pieces _ _ _ (G := fHb)]
  · exact colBlk_emb (n := 10) (W := 512) (by norm_num) fHb 6 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab6 : kernelRun.sl.v1254 c fHws = colBlk (n := 10) (W := 512) (by norm_num) fHws 6 := by
  unfold kernelRun.sl.v1254
  rw [readCov_of_pieces _ _ _ (G := fHws)]
  · exact colBlk_emb (n := 10) (W := 512) (by norm_num) fHws 6 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab7 : kernelRun.sl.v1277 c fHw = colBlk (n := 10) (W := 512) (by norm_num) fHw 7 := by
  unfold kernelRun.sl.v1277
  rw [readCov_of_pieces _ _ _ (G := fHw)]
  · exact colBlk_emb (n := 10) (W := 512) (by norm_num) fHw 7 (by rfl) _
  · repeat refine List.forall_mem_cons.mpr ⟨fun _ => rfl, ?_⟩
    exact fun _ h => absurd h List.not_mem_nil
  · exact View.cover_of_tiledL _ S2560x512.size (by sl_kernel_rfl)
theorem b_slab7 : kernelRun.sl.v1280 c fHb = colBlk (n := 10) (W := 512) (by norm_num) fHb 7 := by
  unfold kernelRun.sl.v1280
  rw [readCov_of_pieces _ _ _ (G := fHb)]
  · exact colBlk_emb (n := 10) (W := 512) (by norm_num) fHb 7 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab7 : kernelRun.sl.v1285 c fHws = colBlk (n := 10) (W := 512) (by norm_num) fHws 7 := by
  unfold kernelRun.sl.v1285
  rw [readCov_of_pieces _ _ _ (G := fHws)]
  · exact colBlk_emb (n := 10) (W := 512) (by norm_num) fHws 7 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab8 : kernelRun.sl.v1308 c fHw = colBlk (n := 10) (W := 512) (by norm_num) fHw 8 := by
  unfold kernelRun.sl.v1308
  rw [readCov_of_pieces _ _ _ (G := fHw)]
  · exact colBlk_emb (n := 10) (W := 512) (by norm_num) fHw 8 (by rfl) _
  · repeat refine List.forall_mem_cons.mpr ⟨fun _ => rfl, ?_⟩
    exact fun _ h => absurd h List.not_mem_nil
  · exact View.cover_of_tiledL _ S2560x512.size (by sl_kernel_rfl)
theorem b_slab8 : kernelRun.sl.v1311 c fHb = colBlk (n := 10) (W := 512) (by norm_num) fHb 8 := by
  unfold kernelRun.sl.v1311
  rw [readCov_of_pieces _ _ _ (G := fHb)]
  · exact colBlk_emb (n := 10) (W := 512) (by norm_num) fHb 8 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab8 : kernelRun.sl.v1316 c fHws = colBlk (n := 10) (W := 512) (by norm_num) fHws 8 := by
  unfold kernelRun.sl.v1316
  rw [readCov_of_pieces _ _ _ (G := fHws)]
  · exact colBlk_emb (n := 10) (W := 512) (by norm_num) fHws 8 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem w_slab9 : kernelRun.sl.v1339 c fHw = colBlk (n := 10) (W := 512) (by norm_num) fHw 9 := by
  unfold kernelRun.sl.v1339
  rw [readCov_of_pieces _ _ _ (G := fHw)]
  · exact colBlk_emb (n := 10) (W := 512) (by norm_num) fHw 9 (by rfl) _
  · repeat refine List.forall_mem_cons.mpr ⟨fun _ => rfl, ?_⟩
    exact fun _ h => absurd h List.not_mem_nil
  · exact View.cover_of_tiledL _ S2560x512.size (by sl_kernel_rfl)
theorem b_slab9 : kernelRun.sl.v1342 c fHb = colBlk (n := 10) (W := 512) (by norm_num) fHb 9 := by
  unfold kernelRun.sl.v1342
  rw [readCov_of_pieces _ _ _ (G := fHb)]
  · exact colBlk_emb (n := 10) (W := 512) (by norm_num) fHb 9 (by rfl) _
  · refine List.forall_mem_cons.mpr ⟨fun x => ?_, fun _ h => absurd h List.not_mem_nil⟩
    show fHb x = fHb ((Rect.whole _).emb x)
    rw [Rect.emb_whole_apply]
  · exact View.cover_of_tiledL _ S16x5120.size (by sl_kernel_rfl)
theorem ws_slab9 : kernelRun.sl.v1347 c fHws = colBlk (n := 10) (W := 512) (by norm_num) fHws 9 := by
  unfold kernelRun.sl.v1347
  rw [readCov_of_pieces _ _ _ (G := fHws)]
  · exact colBlk_emb (n := 10) (W := 512) (by norm_num) fHws 9 (by rfl) _
  · refine List.forall_mem_cons.mpr ⟨fun x => ?_, fun _ h => absurd h List.not_mem_nil⟩
    show fHws x = fHws ((Rect.whole _).emb x)
    rw [Rect.emb_whole_apply]
  · exact View.cover_of_tiledL _ S1x5120.size (by sl_kernel_rfl)
theorem y_slab0 : k0_pay87 (kernelRun.sl.r_50 c fHx fHw) (kernelRun.sl.v1042 c fHx fHa) (kernelRun.sl.v1043 c fHb) (kernelRun.sl.v1045 c fHx) (kernelRun.sl.v1048 c fHws)
    = slab (codesAll fHx) (colBlk (n := 10) (W := 512) (by norm_num) fHw 0) (tAll fHx fHa) (colBlk (n := 10) (W := 512) (by norm_num) fHb 0)
        (scaleCol fHx) (colBlk (n := 10) (W := 512) (by norm_num) fHws 0) := by
  rw [← codes_whole c fHx, ← t_whole c fHx fHa, ← scale_whole c fHx, ← w_slab0 c fHw, ← b_slab0 c fHb, ← ws_slab0 c fHws]; rfl
theorem y_slab1 : k0_pay89 (kernelRun.sl.r_51 c fHx fHw) (kernelRun.sl.v1042 c fHx fHa) (kernelRun.sl.v1094 c fHb) (kernelRun.sl.v1045 c fHx) (kernelRun.sl.v1099 c fHws)
    = slab (codesAll fHx) (colBlk (n := 10) (W := 512) (by norm_num) fHw 1) (tAll fHx fHa) (colBlk (n := 10) (W := 512) (by norm_num) fHb 1)
        (scaleCol fHx) (colBlk (n := 10) (W := 512) (by norm_num) fHws 1) := by
  rw [← codes_whole c fHx, ← t_whole c fHx fHa, ← scale_whole c fHx, ← w_slab1 c fHw, ← b_slab1 c fHb, ← ws_slab1 c fHws]; rfl
theorem y_slab2 : k0_pay90 (kernelRun.sl.v1039 c fHx) (kernelRun.sl.v1122 c fHw) (kernelRun.sl.v1042 c fHx fHa) (kernelRun.sl.v1125 c fHb) (kernelRun.sl.v1045 c fHx) (kernelRun.sl.v1130 c fHws)
    = slab (codesAll fHx) (colBlk (n := 10) (W := 512) (by norm_num) fHw 2) (tAll fHx fHa) (colBlk (n := 10) (W := 512) (by norm_num) fHb 2)
        (scaleCol fHx) (colBlk (n := 10) (W := 512) (by norm_num) fHws 2) := by
  rw [← codes_whole c fHx, ← t_whole c fHx fHa, ← scale_whole c fHx, ← w_slab2 c fHw, ← b_slab2 c fHb, ← ws_slab2 c fHws]; rfl
theorem y_slab3 : k0_pay91 (kernelRun.sl.v1039 c fHx) (kernelRun.sl.v1153 c fHw) (kernelRun.sl.v1042 c fHx fHa) (kernelRun.sl.v1156 c fHb) (kernelRun.sl.v1045 c fHx) (kernelRun.sl.v1161 c fHws)
    = slab (codesAll fHx) (colBlk (n := 10) (W := 512) (by norm_num) fHw 3) (tAll fHx fHa) (colBlk (n := 10) (W := 512) (by norm_num) fHb 3)
        (scaleCol fHx) (colBlk (n := 10) (W := 512) (by norm_num) fHws 3) := by
  rw [← codes_whole c fHx, ← t_whole c fHx fHa, ← scale_whole c fHx, ← w_slab3 c fHw, ← b_slab3 c fHb, ← ws_slab3 c fHws]; rfl
theorem y_slab4 : k0_pay92 (kernelRun.sl.v1039 c fHx) (kernelRun.sl.v1184 c fHw) (kernelRun.sl.v1042 c fHx fHa) (kernelRun.sl.v1187 c fHb) (kernelRun.sl.v1045 c fHx) (kernelRun.sl.v1192 c fHws)
    = slab (codesAll fHx) (colBlk (n := 10) (W := 512) (by norm_num) fHw 4) (tAll fHx fHa) (colBlk (n := 10) (W := 512) (by norm_num) fHb 4)
        (scaleCol fHx) (colBlk (n := 10) (W := 512) (by norm_num) fHws 4) := by
  rw [← codes_whole c fHx, ← t_whole c fHx fHa, ← scale_whole c fHx, ← w_slab4 c fHw, ← b_slab4 c fHb, ← ws_slab4 c fHws]; rfl
theorem y_slab5 : k0_pay94 (kernelRun.sl.r_52 c fHx fHw fHws fHa fHb)
    = slab (codesAll fHx) (colBlk (n := 10) (W := 512) (by norm_num) fHw 5) (tAll fHx fHa) (colBlk (n := 10) (W := 512) (by norm_num) fHb 5)
        (scaleCol fHx) (colBlk (n := 10) (W := 512) (by norm_num) fHws 5) := by
  rw [← codes_whole c fHx, ← t_whole c fHx fHa, ← scale_whole c fHx, ← w_slab5 c fHw, ← b_slab5 c fHb, ← ws_slab5 c fHws]; rfl
theorem y_slab6 : k0_pay98 (kernelRun.sl.r_53 c fHx fHa fHb) (kernelRun.sl.r_54 c fHx fHw) (kernelRun.sl.r_55 c fHws)
    = slab (codesAll fHx) (colBlk (n := 10) (W := 512) (by norm_num) fHw 6) (tAll fHx fHa) (colBlk (n := 10) (W := 512) (by norm_num) fHb 6)
        (scaleCol fHx) (colBlk (n := 10) (W := 512) (by norm_num) fHws 6) := by
  rw [← codes_whole c fHx, ← t_whole c fHx fHa, ← scale_whole c fHx, ← w_slab6 c fHw, ← b_slab6 c fHb, ← ws_slab6 c fHws]; rfl
theorem y_slab7 : k0_pay101 (kernelRun.sl.r_56 c fHx fHw) (kernelRun.sl.r_57 c fHx fHa fHb) (kernelRun.sl.v1045 c fHx) (kernelRun.sl.v1285 c fHws)
    = slab (codesAll fHx) (colBlk (n := 10) (W := 512) (by norm_num) fHw 7) (tAll fHx fHa) (colBlk (n := 10) (W := 512) (by norm_num) fHb 7)
        (scaleCol fHx) (colBlk (n := 10) (W := 512) (by norm_num) fHws 7) := by
  rw [← codes_whole c fHx, ← t_whole c fHx fHa, ← scale_whole c fHx, ← w_slab7 c fHw, ← b_slab7 c fHb, ← ws_slab7 c fHws]; rfl
theorem y_slab8 : k0_pay102 (kernelRun.sl.v1039 c fHx) (kernelRun.sl.v1308 c fHw) kernelRun.sl.cst_825 (kernelRun.sl.v1042 c fHx fHa) (kernelRun.sl.v1311 c fHb) (kernelRun.sl.v1045 c fHx) (kernelRun.sl.v1316 c fHws)
    = slab (codesAll fHx) (colBlk (n := 10) (W := 512) (by norm_num) fHw 8) (tAll fHx fHa) (colBlk (n := 10) (W := 512) (by norm_num) fHb 8)
        (scaleCol fHx) (colBlk (n := 10) (W := 512) (by norm_num) fHws 8) := by
  rw [← codes_whole c fHx, ← t_whole c fHx fHa, ← scale_whole c fHx, ← w_slab8 c fHw, ← b_slab8 c fHb, ← ws_slab8 c fHws]; rfl
theorem y_slab9 : k0_pay103 (kernelRun.sl.v1039 c fHx) (kernelRun.sl.v1339 c fHw) (kernelRun.sl.v1042 c fHx fHa) (kernelRun.sl.v1342 c fHb) (kernelRun.sl.v1045 c fHx) (kernelRun.sl.v1347 c fHws)
    = slab (codesAll fHx) (colBlk (n := 10) (W := 512) (by norm_num) fHw 9) (tAll fHx fHa) (colBlk (n := 10) (W := 512) (by norm_num) fHb 9)
        (scaleCol fHx) (colBlk (n := 10) (W := 512) (by norm_num) fHws 9) := by
  rw [← codes_whole c fHx, ← t_whole c fHx fHa, ← scale_whole c fHx, ← w_slab9 c fHw, ← b_slab9 c fHb, ← ws_slab9 c fHws]; rfl
theorem y_pieces1 : ∀ p ∈ kernelRun.sl.Sy_1 c fHx fHw fHws fHa fHb, ∀ x : p.1.shape.Idx, p.2 x = yAll fHx fHw fHws fHa fHb (p.1.emb x) := by
  unfold kernelRun.sl.Sy_1
  exact List.forall_mem_cons.mpr ⟨fun x => piece_cols (by norm_num) (by norm_num) _ 0 (by rfl) inb_S384x5120_S384x512_0_0 _ (y_slab0 c fHx fHw fHws fHa fHb) x,
    (fun _ h => absurd h List.not_mem_nil)⟩
theorem y_pieces2 : ∀ p ∈ kernelRun.sl.Sy_2 c fHx fHw fHws fHa fHb, ∀ x : p.1.shape.Idx, p.2 x = yAll fHx fHw fHws fHa fHb (p.1.emb x) := by
  unfold kernelRun.sl.Sy_2
  exact List.forall_mem_cons.mpr ⟨fun x => piece_cols (by norm_num) (by norm_num) _ 1 (by rfl) inb_S384x5120_S384x512_0_512 _ (y_slab1 c fHx fHw fHws fHa fHb) x,
    (y_pieces1 c fHx fHw fHws fHa fHb)⟩
theorem y_pieces3 : ∀ p ∈ kernelRun.sl.Sy_3 c fHx fHw fHws fHa fHb, ∀ x : p.1.shape.Idx, p.2 x = yAll fHx fHw fHws fHa fHb (p.1.emb x) := by
  unfold kernelRun.sl.Sy_3
  exact List.forall_mem_cons.mpr ⟨fun x => piece_cols (by norm_num) (by norm_num) _ 2 (by rfl) inb_S384x5120_S384x512_0_1024 _ (y_slab2 c fHx fHw fHws fHa fHb) x,
    (y_pieces2 c fHx fHw fHws fHa fHb)⟩
theorem y_pieces4 : ∀ p ∈ kernelRun.sl.Sy_4 c fHx fHw fHws fHa fHb, ∀ x : p.1.shape.Idx, p.2 x = yAll fHx fHw fHws fHa fHb (p.1.emb x) := by
  unfold kernelRun.sl.Sy_4
  exact List.forall_mem_cons.mpr ⟨fun x => piece_cols (by norm_num) (by norm_num) _ 3 (by rfl) inb_S384x5120_S384x512_0_1536 _ (y_slab3 c fHx fHw fHws fHa fHb) x,
    (y_pieces3 c fHx fHw fHws fHa fHb)⟩
theorem y_pieces5 : ∀ p ∈ kernelRun.sl.Sy_5 c fHx fHw fHws fHa fHb, ∀ x : p.1.shape.Idx, p.2 x = yAll fHx fHw fHws fHa fHb (p.1.emb x) := by
  unfold kernelRun.sl.Sy_5
  exact List.forall_mem_cons.mpr ⟨fun x => piece_cols (by norm_num) (by norm_num) _ 4 (by rfl) inb_S384x5120_S384x512_0_2048 _ (y_slab4 c fHx fHw fHws fHa fHb) x,
    (y_pieces4 c fHx fHw fHws fHa fHb)⟩
theorem y_pieces6 : ∀ p ∈ kernelRun.sl.Sy_6 c fHx fHw fHws fHa fHb, ∀ x : p.1.shape.Idx, p.2 x = yAll fHx fHw fHws fHa fHb (p.1.emb x) := by
  unfold kernelRun.sl.Sy_6
  exact List.forall_mem_cons.mpr ⟨fun x => piece_cols (by norm_num) (by norm_num) _ 5 (by rfl) inb_S384x5120_S384x512_0_2560 _ (y_slab5 c fHx fHw fHws fHa fHb) x,
    (y_pieces5 c fHx fHw fHws fHa fHb)⟩
theorem y_pieces7 : ∀ p ∈ kernelRun.sl.Sy_7 c fHx fHw fHws fHa fHb, ∀ x : p.1.shape.Idx, p.2 x = yAll fHx fHw fHws fHa fHb (p.1.emb x) := by
  unfold kernelRun.sl.Sy_7
  exact List.forall_mem_cons.mpr ⟨fun x => piece_cols (by norm_num) (by norm_num) _ 6 (by rfl) inb_S384x5120_S384x512_0_3072 _ (y_slab6 c fHx fHw fHws fHa fHb) x,
    (y_pieces6 c fHx fHw fHws fHa fHb)⟩
theorem y_pieces8 : ∀ p ∈ kernelRun.sl.Sy_8 c fHx fHw fHws fHa fHb, ∀ x : p.1.shape.Idx, p.2 x = yAll fHx fHw fHws fHa fHb (p.1.emb x) := by
  unfold kernelRun.sl.Sy_8
  exact List.forall_mem_cons.mpr ⟨fun x => piece_cols (by norm_num) (by norm_num) _ 7 (by rfl) inb_S384x5120_S384x512_0_3584 _ (y_slab7 c fHx fHw fHws fHa fHb) x,
    (y_pieces7 c fHx fHw fHws fHa fHb)⟩
theorem y_pieces9 : ∀ p ∈ kernelRun.sl.Sy_9 c fHx fHw fHws fHa fHb, ∀ x : p.1.shape.Idx, p.2 x = yAll fHx fHw fHws fHa fHb (p.1.emb x) := by
  unfold kernelRun.sl.Sy_9
  exact List.forall_mem_cons.mpr ⟨fun x => piece_cols (by norm_num) (by norm_num) _ 8 (by rfl) inb_S384x5120_S384x512_0_4096 _ (y_slab8 c fHx fHw fHws fHa fHb) x,
    (y_pieces8 c fHx fHw fHws fHa fHb)⟩
theorem y_pieces10 : ∀ p ∈ kernelRun.sl.Sy_10 c fHx fHw fHws fHa fHb, ∀ x : p.1.shape.Idx, p.2 x = yAll fHx fHw fHws fHa fHb (p.1.emb x) := by
  unfold kernelRun.sl.Sy_10
  exact List.forall_mem_cons.mpr ⟨fun x => piece_cols (by norm_num) (by norm_num) _ 9 (by rfl) inb_S384x5120_S384x512_0_4608 _ (y_slab9 c fHx fHw fHws fHa fHb) x,
    (y_pieces9 c fHx fHw fHws fHa fHb)⟩
end Cert.KernelIdeal.Hand
end
-- ==== Proof.KernelIdeal.Out.lean ====
/-
  Hand-written. What the body's run leaves in the three results, in closed form: `y`, the codes and the row of scales of
  `Parts`, whatever the results and the scratch buffers held at the start.
-/
module
public import proofs.«01_k».proof.Proof.KernelIdeal.Lists
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
variable {F : FTy → Type} [FloatOps F]

/-- A rectangle holds the places it puts its indices at. -/
theorem emb_mem_rect {s : Shape} (r : Rect s) (x : r.shape.Idx) : r.emb x ∈ r.set := by
  rw [← Rect.map_emb_univ]; exact Finset.mem_map_of_mem _ (Finset.mem_univ _)

/-- A list of pieces agrees with a tensor when its first piece and the rest do. -/
theorem pieces_cons {s : Shape} {e : EltTy} {G : s.Idx → Elt F e} {r : Rect s} {w : r.shape.Idx → Elt F e}
    {L : List (View.Piece (Elt F) s e)} (h : ∀ x : r.shape.Idx, w x = G (r.emb x))
    (t : ∀ p ∈ L, ∀ x : p.1.shape.Idx, p.2 x = G (p.1.emb x)) :
    ∀ p ∈ (⟨r, w⟩ :: L : List (View.Piece (Elt F) s e)), ∀ x : p.1.shape.Idx, p.2 x = G (p.1.emb x) := by
  intro p hp
  rcases List.mem_cons.mp hp with rfl | hp
  · exact h
  · exact t p hp

variable (c : Dev nD)
  (fHx : Buf (Elt F) (View.loc (c.tc : Thread nD τ) (Memref.whole main_v0).view))
  (fHw : Buf (Elt F) (View.loc (c.tc : Thread nD τ) (Memref.whole main_arg1).view))
  (fHws : Buf (Elt F) (View.loc (c.tc : Thread nD τ) (Memref.whole main_v1).view))
  (fHa : Buf (Elt F) (View.loc (c.tc : Thread nD τ) (Memref.whole main_v2).view))
  (fHb : Buf (Elt F) (View.loc (c.tc : Thread nD τ) (Memref.whole main_arg4).view))
  (fSy : Buf (Elt F) (View.loc (c.tc : Thread nD τ) (Memref.whole cc0_scratch5).view))
  (fSc : Buf (Elt F) (View.loc (c.tc : Thread nD τ) (Memref.whole cc0_scratch6).view))
  (fSrow : Buf (Elt F) (View.loc (c.tc : Thread nD τ) (Memref.whole cc0_scratch8).view))

/-! ## The three results -/

theorem y_out0 (x : S384x512.Idx) : kernelRun.sl.dma73 c fHx fHw fHws fHa fHb fSy x
    = yAll fHx fHw fHws fHa fHb ((Rect.unit (s := S384x5120) ![0, 0] S384x512.size inb_S384x5120_S384x512_0_0).emb x) := by
  unfold kernelRun.sl.dma73
  refine View.read_writes_apply_of_pieces (Memref.whole cc0_scratch5).view fSy (yAll fHx fHw fHws fHa fHb) _ (y_pieces2 c fHx fHw fHws fHa fHb)
    ((Rect.unit (s := S384x5120) ![0, 0] S384x512.size inb_S384x5120_S384x512_0_0).emb x) ?_
  unfold kernelRun.sl.Sy_2
  unfold kernelRun.sl.Sy_1
  exact ⟨_, List.mem_cons_of_mem _ List.mem_cons_self, emb_mem_rect (Rect.unit (s := S384x5120) ![0, 0] S384x512.size inb_S384x5120_S384x512_0_0) x⟩
theorem y_out1 (x : S384x512.Idx) : kernelRun.sl.dma81 c fHx fHw fHws fHa fHb fSy x
    = yAll fHx fHw fHws fHa fHb ((Rect.unit (s := S384x5120) ![0, 512] S384x512.size inb_S384x5120_S384x512_0_512).emb x) := by
  unfold kernelRun.sl.dma81
  refine View.read_writes_apply_of_pieces (Memref.whole cc0_scratch5).view fSy (yAll fHx fHw fHws fHa fHb) _ (y_pieces3 c fHx fHw fHws fHa fHb)
    ((Rect.unit (s := S384x5120) ![0, 512] S384x512.size inb_S384x5120_S384x512_0_512).emb x) ?_
  unfold kernelRun.sl.Sy_3
  unfold kernelRun.sl.Sy_2
  exact ⟨_, List.mem_cons_of_mem _ List.mem_cons_self, emb_mem_rect (Rect.unit (s := S384x5120) ![0, 512] S384x512.size inb_S384x5120_S384x512_0_512) x⟩
theorem y_out2 (x : S384x512.Idx) : kernelRun.sl.dma89 c fHx fHw fHws fHa fHb fSy x
    = yAll fHx fHw fHws fHa fHb ((Rect.unit (s := S384x5120) ![0, 1024] S384x512.size inb_S384x5120_S384x512_0_1024).emb x) := by
  unfold kernelRun.sl.dma89
  refine View.read_writes_apply_of_pieces (Memref.whole cc0_scratch5).view fSy (yAll fHx fHw fHws fHa fHb) _ (y_pieces4 c fHx fHw fHws fHa fHb)
    ((Rect.unit (s := S384x5120) ![0, 1024] S384x512.size inb_S384x5120_S384x512_0_1024).emb x) ?_
  unfold kernelRun.sl.Sy_4
  unfold kernelRun.sl.Sy_3
  exact ⟨_, List.mem_cons_of_mem _ List.mem_cons_self, emb_mem_rect (Rect.unit (s := S384x5120) ![0, 1024] S384x512.size inb_S384x5120_S384x512_0_1024) x⟩
theorem y_out3 (x : S384x512.Idx) : kernelRun.sl.dma97 c fHx fHw fHws fHa fHb fSy x
    = yAll fHx fHw fHws fHa fHb ((Rect.unit (s := S384x5120) ![0, 1536] S384x512.size inb_S384x5120_S384x512_0_1536).emb x) := by
  unfold kernelRun.sl.dma97
  refine View.read_writes_apply_of_pieces (Memref.whole cc0_scratch5).view fSy (yAll fHx fHw fHws fHa fHb) _ (y_pieces5 c fHx fHw fHws fHa fHb)
    ((Rect.unit (s := S384x5120) ![0, 1536] S384x512.size inb_S384x5120_S384x512_0_1536).emb x) ?_
  unfold kernelRun.sl.Sy_5
  unfold kernelRun.sl.Sy_4
  exact ⟨_, List.mem_cons_of_mem _ List.mem_cons_self, emb_mem_rect (Rect.unit (s := S384x5120) ![0, 1536] S384x512.size inb_S384x5120_S384x512_0_1536) x⟩
theorem y_out4 (x : S384x512.Idx) : kernelRun.sl.dma105 c fHx fHw fHws fHa fHb fSy x
    = yAll fHx fHw fHws fHa fHb ((Rect.unit (s := S384x5120) ![0, 2048] S384x512.size inb_S384x5120_S384x512_0_2048).emb x) := by
  unfold kernelRun.sl.dma105
  refine View.read_writes_apply_of_pieces (Memref.whole cc0_scratch5).view fSy (yAll fHx fHw fHws fHa fHb) _ (y_pieces6 c fHx fHw fHws fHa fHb)
    ((Rect.unit (s := S384x5120) ![0, 2048] S384x512.size inb_S384x5120_S384x512_0_2048).emb x) ?_
  unfold kernelRun.sl.Sy_6
  unfold kernelRun.sl.Sy_5
  exact ⟨_, List.mem_cons_of_mem _ List.mem_cons_self, emb_mem_rect (Rect.unit (s := S384x5120) ![0, 2048] S384x512.size inb_S384x5120_S384x512_0_2048) x⟩
theorem y_out5 (x : S384x512.Idx) : kernelRun.sl.dma113 c fHx fHw fHws fHa fHb fSy x
    = yAll fHx fHw fHws fHa fHb ((Rect.unit (s := S384x5120) ![0, 2560] S384x512.size inb_S384x5120_S384x512_0_2560).emb x) := by
  unfold kernelRun.sl.dma113
  refine View.read_writes_apply_of_pieces (Memref.whole cc0_scratch5).view fSy (yAll fHx fHw fHws fHa fHb) _ (y_pieces7 c fHx fHw fHws fHa fHb)
    ((Rect.unit (s := S384x5120) ![0, 2560] S384x512.size inb_S384x5120_S384x512_0_2560).emb x) ?_
  unfold kernelRun.sl.Sy_7
  unfold kernelRun.sl.Sy_6
  exact ⟨_, List.mem_cons_of_mem _ List.mem_cons_self, emb_mem_rect (Rect.unit (s := S384x5120) ![0, 2560] S384x512.size inb_S384x5120_S384x512_0_2560) x⟩
theorem y_out6 (x : S384x512.Idx) : kernelRun.sl.dma121 c fHx fHw fHws fHa fHb fSy x
    = yAll fHx fHw fHws fHa fHb ((Rect.unit (s := S384x5120) ![0, 3072] S384x512.size inb_S384x5120_S384x512_0_3072).emb x) := by
  unfold kernelRun.sl.dma121
  refine View.read_writes_apply_of_pieces (Memref.whole cc0_scratch5).view fSy (yAll fHx fHw fHws fHa fHb) _ (y_pieces8 c fHx fHw fHws fHa fHb)
    ((Rect.unit (s := S384x5120) ![0, 3072] S384x512.size inb_S384x5120_S384x512_0_3072).emb x) ?_
  unfold kernelRun.sl.Sy_8
  unfold kernelRun.sl.Sy_7
  exact ⟨_, List.mem_cons_of_mem _ List.mem_cons_self, emb_mem_rect (Rect.unit (s := S384x5120) ![0, 3072] S384x512.size inb_S384x5120_S384x512_0_3072) x⟩
theorem y_out7 (x : S384x512.Idx) : kernelRun.sl.dma129 c fHx fHw fHws fHa fHb fSy x
    = yAll fHx fHw fHws fHa fHb ((Rect.unit (s := S384x5120) ![0, 3584] S384x512.size inb_S384x5120_S384x512_0_3584).emb x) := by
  unfold kernelRun.sl.dma129
  refine View.read_writes_apply_of_pieces (Memref.whole cc0_scratch5).view fSy (yAll fHx fHw fHws fHa fHb) _ (y_pieces9 c fHx fHw fHws fHa fHb)
    ((Rect.unit (s := S384x5120) ![0, 3584] S384x512.size inb_S384x5120_S384x512_0_3584).emb x) ?_
  unfold kernelRun.sl.Sy_9
  unfold kernelRun.sl.Sy_8
  exact ⟨_, List.mem_cons_of_mem _ List.mem_cons_self, emb_mem_rect (Rect.unit (s := S384x5120) ![0, 3584] S384x512.size inb_S384x5120_S384x512_0_3584) x⟩
theorem y_out8 (x : S384x512.Idx) : kernelRun.sl.dma137 c fHx fHw fHws fHa fHb fSy x
    = yAll fHx fHw fHws fHa fHb ((Rect.unit (s := S384x5120) ![0, 4096] S384x512.size inb_S384x5120_S384x512_0_4096).emb x) := by
  unfold kernelRun.sl.dma137
  refine View.read_writes_apply_of_pieces (Memref.whole cc0_scratch5).view fSy (yAll fHx fHw fHws fHa fHb) _ (y_pieces10 c fHx fHw fHws fHa fHb)
    ((Rect.unit (s := S384x5120) ![0, 4096] S384x512.size inb_S384x5120_S384x512_0_4096).emb x) ?_
  unfold kernelRun.sl.Sy_10
  unfold kernelRun.sl.Sy_9
  exact ⟨_, List.mem_cons_of_mem _ List.mem_cons_self, emb_mem_rect (Rect.unit (s := S384x5120) ![0, 4096] S384x512.size inb_S384x5120_S384x512_0_4096) x⟩
theorem y_out9 (x : S384x512.Idx) : kernelRun.sl.dma137_1 c fHx fHw fHws fHa fHb fSy x
    = yAll fHx fHw fHws fHa fHb ((Rect.unit (s := S384x5120) ![0, 4608] S384x512.size inb_S384x5120_S384x512_0_4608).emb x) := by
  unfold kernelRun.sl.dma137_1
  refine View.read_writes_apply_of_pieces (Memref.whole cc0_scratch5).view fSy (yAll fHx fHw fHws fHa fHb) _ (y_pieces10 c fHx fHw fHws fHa fHb)
    ((Rect.unit (s := S384x5120) ![0, 4608] S384x512.size inb_S384x5120_S384x512_0_4608).emb x) ?_
  unfold kernelRun.sl.Sy_10
  exact ⟨_, List.mem_cons_self, emb_mem_rect (Rect.unit (s := S384x5120) ![0, 4608] S384x512.size inb_S384x5120_S384x512_0_4608) x⟩
theorem codes_out0 (x : S64x5120.Idx) : kernelRun.sl.dma65 c fHx fSc x
    = codesAll fHx ((Rect.unit (s := S384x5120) ![0, 0] S64x5120.size inb_S384x5120_S64x5120_0_0).emb x) := by
  unfold kernelRun.sl.dma65
  exact View.read_writes_apply_of_pieces (Memref.whole cc0_scratch6).view fSc (codesAll fHx) _ (codes_pieces6 c fHx) _ (codes_cover c fHx _)
theorem codes_out1 (x : S64x5120.Idx) : kernelRun.sl.dma65_1 c fHx fSc x
    = codesAll fHx ((Rect.unit (s := S384x5120) ![64, 0] S64x5120.size inb_S384x5120_S64x5120_64_0).emb x) := by
  unfold kernelRun.sl.dma65_1
  exact View.read_writes_apply_of_pieces (Memref.whole cc0_scratch6).view fSc (codesAll fHx) _ (codes_pieces6 c fHx) _ (codes_cover c fHx _)
theorem codes_out2 (x : S64x5120.Idx) : kernelRun.sl.dma65_2 c fHx fSc x
    = codesAll fHx ((Rect.unit (s := S384x5120) ![128, 0] S64x5120.size inb_S384x5120_S64x5120_128_0).emb x) := by
  unfold kernelRun.sl.dma65_2
  exact View.read_writes_apply_of_pieces (Memref.whole cc0_scratch6).view fSc (codesAll fHx) _ (codes_pieces6 c fHx) _ (codes_cover c fHx _)
theorem codes_out3 (x : S64x5120.Idx) : kernelRun.sl.dma65_3 c fHx fSc x
    = codesAll fHx ((Rect.unit (s := S384x5120) ![192, 0] S64x5120.size inb_S384x5120_S64x5120_192_0).emb x) := by
  unfold kernelRun.sl.dma65_3
  exact View.read_writes_apply_of_pieces (Memref.whole cc0_scratch6).view fSc (codesAll fHx) _ (codes_pieces6 c fHx) _ (codes_cover c fHx _)
theorem codes_out4 (x : S64x5120.Idx) : kernelRun.sl.dma65_4 c fHx fSc x
    = codesAll fHx ((Rect.unit (s := S384x5120) ![256, 0] S64x5120.size inb_S384x5120_S64x5120_256_0).emb x) := by
  unfold kernelRun.sl.dma65_4
  exact View.read_writes_apply_of_pieces (Memref.whole cc0_scratch6).view fSc (codesAll fHx) _ (codes_pieces6 c fHx) _ (codes_cover c fHx _)
theorem codes_out5 (x : S64x5120.Idx) : kernelRun.sl.dma65_5 c fHx fSc x
    = codesAll fHx ((Rect.unit (s := S384x5120) ![320, 0] S64x5120.size inb_S384x5120_S64x5120_320_0).emb x) := by
  unfold kernelRun.sl.dma65_5
  exact View.read_writes_apply_of_pieces (Memref.whole cc0_scratch6).view fSc (codesAll fHx) _ (codes_pieces6 c fHx) _ (codes_cover c fHx _)
theorem scale_out (x : S1x384.Idx) : kernelRun.sl.dma65_6 c fHx fSrow x = scaleRow fHx x := by
  unfold kernelRun.sl.dma65_6
  exact View.read_writes_apply_of_pieces (Memref.whole cc0_scratch8).view fSrow (scaleRow fHx) _ (row_pieces c fHx) _ (row_cover c fHx _)

variable (fHy : Buf (Elt F) (View.loc (c.tc : Thread nD τ) (Memref.whole main_v3_0).view))
  (fHc : Buf (Elt F) (View.loc (c.tc : Thread nD τ) (Memref.whole main_v3_1).view))
  (fHs : Buf (Elt F) (View.loc (c.tc : Thread nD τ) (Memref.whole main_v3_2).view))

/-- The run's list of pieces for `y`. -/
theorem y_list : (kernelRun c fHx fHw fHws fHa fHb).1 fSy = [
    ⟨Rect.unit ![0, 4608] S384x512.size inb_S384x5120_S384x512_0_4608, kernelRun.sl.dma137_1 c fHx fHw fHws fHa fHb fSy⟩,
    ⟨Rect.unit ![0, 4096] S384x512.size inb_S384x5120_S384x512_0_4096, kernelRun.sl.dma137 c fHx fHw fHws fHa fHb fSy⟩,
    ⟨Rect.unit ![0, 3584] S384x512.size inb_S384x5120_S384x512_0_3584, kernelRun.sl.dma129 c fHx fHw fHws fHa fHb fSy⟩,
    ⟨Rect.unit ![0, 3072] S384x512.size inb_S384x5120_S384x512_0_3072, kernelRun.sl.dma121 c fHx fHw fHws fHa fHb fSy⟩,
    ⟨Rect.unit ![0, 2560] S384x512.size inb_S384x5120_S384x512_0_2560, kernelRun.sl.dma113 c fHx fHw fHws fHa fHb fSy⟩,
    ⟨Rect.unit ![0, 2048] S384x512.size inb_S384x5120_S384x512_0_2048, kernelRun.sl.dma105 c fHx fHw fHws fHa fHb fSy⟩,
    ⟨Rect.unit ![0, 1536] S384x512.size inb_S384x5120_S384x512_0_1536, kernelRun.sl.dma97 c fHx fHw fHws fHa fHb fSy⟩,
    ⟨Rect.unit ![0, 1024] S384x512.size inb_S384x5120_S384x512_0_1024, kernelRun.sl.dma89 c fHx fHw fHws fHa fHb fSy⟩,
    ⟨Rect.unit ![0, 512] S384x512.size inb_S384x5120_S384x512_0_512, kernelRun.sl.dma81 c fHx fHw fHws fHa fHb fSy⟩,
    ⟨Rect.unit ![0, 0] S384x512.size inb_S384x5120_S384x512_0_0, kernelRun.sl.dma73 c fHx fHw fHws fHa fHb fSy⟩] := by
  unfold kernelRun; rfl
/-- The run's list of pieces for the codes. -/
theorem codes_list : (kernelRun c fHx fHw fHws fHa fHb).2.1 fSc = [
    ⟨Rect.unit ![320, 0] S64x5120.size inb_S384x5120_S64x5120_320_0, kernelRun.sl.dma65_5 c fHx fSc⟩,
    ⟨Rect.unit ![256, 0] S64x5120.size inb_S384x5120_S64x5120_256_0, kernelRun.sl.dma65_4 c fHx fSc⟩,
    ⟨Rect.unit ![192, 0] S64x5120.size inb_S384x5120_S64x5120_192_0, kernelRun.sl.dma65_3 c fHx fSc⟩,
    ⟨Rect.unit ![128, 0] S64x5120.size inb_S384x5120_S64x5120_128_0, kernelRun.sl.dma65_2 c fHx fSc⟩,
    ⟨Rect.unit ![64, 0] S64x5120.size inb_S384x5120_S64x5120_64_0, kernelRun.sl.dma65_1 c fHx fSc⟩,
    ⟨Rect.unit ![0, 0] S64x5120.size inb_S384x5120_S64x5120_0_0, kernelRun.sl.dma65 c fHx fSc⟩] := by
  unfold kernelRun; rfl
/-- The run's list of pieces for the scales. -/
theorem scale_list : (kernelRun c fHx fHw fHws fHa fHb).2.2.1 fSrow = [⟨Rect.whole S1x384, kernelRun.sl.dma65_6 c fHx fSrow⟩] := by
  unfold kernelRun; rfl
attribute [local irreducible] yAll codesAll scaleRow

/-- The run leaves `y` at `yAll`. -/
theorem y_result : (Memref.whole main_v3_0).view.writes (Elt F) fHy ((kernelRun c fHx fHw fHws fHa fHb).1 fSy) = yAll fHx fHw fHws fHa fHb := by
  rw [y_list]
  funext i
  refine Eq.trans (congrFun (View.read_whole main_v3_0 _).symm i) ?_
  refine View.read_writes_apply_of_pieces (Memref.whole main_v3_0).view fHy (yAll fHx fHw fHws fHa fHb) _ ?_ i ?_
  · exact pieces_cons (y_out9 c fHx fHw fHws fHa fHb fSy) (pieces_cons (y_out8 c fHx fHw fHws fHa fHb fSy) (pieces_cons (y_out7 c fHx fHw fHws fHa fHb fSy) (pieces_cons (y_out6 c fHx fHw fHws fHa fHb fSy) (pieces_cons (y_out5 c fHx fHw fHws fHa fHb fSy) (pieces_cons (y_out4 c fHx fHw fHws fHa fHb fSy) (pieces_cons (y_out3 c fHx fHw fHws fHa fHb fSy) (pieces_cons (y_out2 c fHx fHw fHws fHa fHb fSy) (pieces_cons (y_out1 c fHx fHw fHws fHa fHb fSy) (pieces_cons (y_out0 c fHx fHw fHws fHa fHb fSy) (
      fun _ h => absurd h List.not_mem_nil))))))))))
  · exact View.cover_of_tiledL (s := S384x5120) _ S384x512.size (by sl_kernel_rfl) i
/-- The run leaves the codes at `codesAll`. -/
theorem codes_result : (Memref.whole main_v3_1).view.writes (Elt F) fHc ((kernelRun c fHx fHw fHws fHa fHb).2.1 fSc) = codesAll fHx := by
  rw [codes_list]
  funext i
  refine Eq.trans (congrFun (View.read_whole main_v3_1 _).symm i) ?_
  refine View.read_writes_apply_of_pieces (Memref.whole main_v3_1).view fHc (codesAll fHx) _ ?_ i ?_
  · exact pieces_cons (codes_out5 c fHx fSc) (pieces_cons (codes_out4 c fHx fSc) (pieces_cons (codes_out3 c fHx fSc) (pieces_cons (codes_out2 c fHx fSc) (pieces_cons (codes_out1 c fHx fSc) (pieces_cons (codes_out0 c fHx fSc) (
      fun _ h => absurd h List.not_mem_nil))))))
  · exact View.cover_of_tiledL (s := S384x5120) _ S64x5120.size (by sl_kernel_rfl) i
/-- The run leaves the scales at `scaleRow`. -/
theorem scale_result : (Memref.whole main_v3_2).view.writes (Elt F) fHs ((kernelRun c fHx fHw fHws fHa fHb).2.2.1 fSrow) = scaleRow fHx := by
  rw [scale_list]
  funext i
  refine Eq.trans (congrFun (View.read_whole main_v3_2 _).symm i) ?_
  refine View.read_writes_apply_of_pieces (Memref.whole main_v3_2).view fHs (scaleRow fHx) _ ?_ i ?_
  · refine pieces_cons (fun x => ?_) (fun _ h => absurd h List.not_mem_nil)
    refine (scale_out c fHx fSrow x).trans (congrArg (scaleRow fHx) ?_)
    exact (Rect.emb_whole_apply _ x).symm
  · exact View.cover_of_tiledL (s := S1x384) _ S1x384.size (by sl_kernel_rfl) i

end Cert.KernelIdeal.Hand
end
-- ==== Proof.KernelIdeal.Launch.lean ====
/-
  Hand-written. The launch: @main's host lines, the kernel call run by `kernelRun`, the host lines after it. Its theorem
  `run_values` says how the whole program ends: the argument arrays as they were, every semaphore counter at zero, and the
  three results at the reshapes of `Parts`'s `yAll`, `codesAll` and `scaleRow`.
-/
module
public import proofs.«01_k».proof.Proof.KernelIdeal.Out
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-! ## What the body may touch -/

/-- The unscoped buffers the body reads. -/
def H0 : Finset (Ref sig .tc) := {main_v0, main_arg1, main_v1, main_v2, main_arg4}
/-- The unscoped buffers the body writes: the kernel call's three results. -/
def R0 : Finset (Ref sig .tc) := {main_v3_0, main_v3_1, main_v3_2}
theorem H0_sub : H0 ⊆ Pipeline.restRefs sig cfg0.spec := by decide
theorem R0_sub : R0 ⊆ Pipeline.restRefs sig cfg0.spec \ H0 := by decide
/-- The body's own semaphores: the forty-six cells of its transfers. -/
abbrev osem0 : Fin 46 → SemLoc sig := fun j => SemLoc.dma j
theorem ownSemFacts0 : Pipeline.OwnSemFacts cfg0.spec osem0 := by decide

/-- What the body leaves: the three results in closed form, and nothing else changed. -/
def G (c : Dev nD) (b : Ref sig .tc) : Buf (Elt F) ((c : Thread nD τ).loc b) :=
  if h : b = main_v3_0 then h ▸ yAll (V m c main_v0) (V m c main_arg1) (V m c main_v1) (V m c main_v2) (V m c main_arg4)
  else if h : b = main_v3_1 then h ▸ codesAll (V m c main_v0)
  else if h : b = main_v3_2 then h ▸ scaleRow (V m c main_v0)
  else V m c b
theorem G_y (c : Dev nD) : G m c main_v3_0
    = yAll (V m c main_v0) (V m c main_arg1) (V m c main_v1) (V m c main_v2) (V m c main_arg4) := by
  unfold G; rw [dif_pos rfl]
theorem G_codes (c : Dev nD) : G m c main_v3_1 = codesAll (V m c main_v0) := by
  unfold G; rw [dif_neg (by decide), dif_pos rfl]
theorem G_scale (c : Dev nD) : G m c main_v3_2 = scaleRow (V m c main_v0) := by
  unfold G; rw [dif_neg (by decide), dif_neg (by decide), dif_pos rfl]

/-! ## The region's state, opened -/

/-- A whole buffer held through its view is the buffer held. -/
theorem bufPt_eq (c : Dev nD) (b : Ref sig .tc) (f : Buf (Elt F) ((c : Thread nD τ).loc b)) :
    bufPt c b f = iprop(((c : Thread nD τ).loc b) ↦{fullShare} f) := by
  unfold bufPt; rw [show (Memref.whole b).view.set = Finset.univ from View.set_whole b]
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 0) 0 ∗ semVal ((c : Thread nD τ), SemLoc.dma 1) 0 ∗ semVal ((c : Thread nD τ), SemLoc.dma 2) 0 ∗
          semVal ((c : Thread nD τ), SemLoc.dma 3) 0 ∗ semVal ((c : Thread nD τ), SemLoc.dma 4) 0 ∗ semVal ((c : Thread nD τ), SemLoc.dma 5) 0 ∗
          semVal ((c : Thread nD τ), SemLoc.dma 6) 0 ∗ semVal ((c : Thread nD τ), SemLoc.dma 7) 0 ∗ semVal ((c : Thread nD τ), SemLoc.dma 8) 0 ∗
          semVal ((c : Thread nD τ), SemLoc.dma 9) 0 ∗ semVal ((c : Thread nD τ), SemLoc.dma 10) 0 ∗ semVal ((c : Thread nD τ), SemLoc.dma 11) 0 ∗
          semVal ((c : Thread nD τ), SemLoc.dma 12) 0 ∗ semVal ((c : Thread nD τ), SemLoc.dma 13) 0 ∗ semVal ((c : Thread nD τ), SemLoc.dma 14) 0 ∗
          semVal ((c : Thread nD τ), SemLoc.dma 15) 0 ∗ semVal ((c : Thread nD τ), SemLoc.dma 16) 0 ∗ semVal ((c : Thread nD τ), SemLoc.dma 17) 0 ∗
          semVal ((c : Thread nD τ), SemLoc.dma 18) 0 ∗ semVal ((c : Thread nD τ), SemLoc.dma 19) 0 ∗ semVal ((c : Thread nD τ), SemLoc.dma 20) 0 ∗
          semVal ((c : Thread nD τ), SemLoc.dma 21) 0 ∗ semVal ((c : Thread nD τ), SemLoc.dma 22) 0 ∗ semVal ((c : Thread nD τ), SemLoc.dma 23) 0 ∗
          semVal ((c : Thread nD τ), SemLoc.dma 24) 0 ∗ semVal ((c : Thread nD τ), SemLoc.dma 25) 0 ∗ semVal ((c : Thread nD τ), SemLoc.dma 26) 0 ∗
          semVal ((c : Thread nD τ), SemLoc.dma 27) 0 ∗ semVal ((c : Thread nD τ), SemLoc.dma 28) 0 ∗ semVal ((c : Thread nD τ), SemLoc.dma 29) 0 ∗
          semVal ((c : Thread nD τ), SemLoc.dma 30) 0 ∗ semVal ((c : Thread nD τ), SemLoc.dma 31) 0 ∗ semVal ((c : Thread nD τ), SemLoc.dma 32) 0 ∗
          semVal ((c : Thread nD τ), SemLoc.dma 33) 0 ∗ semVal ((c : Thread nD τ), SemLoc.dma 34) 0 ∗ semVal ((c : Thread nD τ), SemLoc.dma 35) 0 ∗
          semVal ((c : Thread nD τ), SemLoc.dma 36) 0 ∗ semVal ((c : Thread nD τ), SemLoc.dma 37) 0 ∗ semVal ((c : Thread nD τ), SemLoc.dma 38) 0 ∗
          semVal ((c : Thread nD τ), SemLoc.dma 39) 0 ∗ semVal ((c : Thread nD τ), SemLoc.dma 40) 0 ∗ semVal ((c : Thread nD τ), SemLoc.dma 41) 0 ∗
          semVal ((c : Thread nD τ), SemLoc.dma 42) 0 ∗ semVal ((c : Thread nD τ), SemLoc.dma 43) 0 ∗ semVal ((c : Thread nD τ), SemLoc.dma 44) 0 ∗
          semVal ((c : Thread nD τ), SemLoc.dma 45) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45] (by decide) (by decide)]; rfl
theorem reads_eq (c : Dev nD) :
    (bigSep H0 (fun b => ((c : Thread nD τ).loc b) ↦{fullShare} V m c b) : sProp 𝕄)
      = iprop(bufPt c main_v0 (V m c main_v0) ∗ bufPt c main_arg1 (V m c main_arg1) ∗ bufPt c main_v1 (V m c main_v1) ∗ bufPt c main_v2 (V m c main_v2) ∗
          bufPt c main_arg4 (V m c main_arg4)) := by
  rw [BI.bigSep_eq_bigSepL_of_eq [main_v0, main_arg1, main_v1, main_v2, main_arg4] (by decide) (by decide)]
  simp only [bufPt_eq]; rfl
theorem writes_eq (c : Dev nD) (g : (b : Ref sig .tc) → Buf (Elt F) ((c : Thread nD τ).loc b)) :
    (bigSep R0 (fun b => ((c : Thread nD τ).loc b) ↦{fullShare} g b) : sProp 𝕄)
      = iprop(bufPt c main_v3_0 (g main_v3_0) ∗ bufPt c main_v3_1 (g main_v3_1) ∗ bufPt c main_v3_2 (g main_v3_2)) := by
  rw [BI.bigSep_eq_bigSepL_of_eq [main_v3_0, main_v3_1, main_v3_2] (by decide) (by decide)]
  simp only [bufPt_eq]; rfl
theorem scratch_eq (c : Dev nD) :
    (Pipeline.scopedRest (Ix := Unit) (Name := ℕ) (U := Pipeline.UD sig nD τ) (Lvl := ℕ) (Val := Elt F) cfg0.spec c : sProp 𝕄)
      = iprop((∃ f, bufPt c cc0_scratch0 f) ∗ (∃ f, bufPt c cc0_scratch1 f) ∗ (∃ f, bufPt c cc0_scratch2 f) ∗ (∃ f, bufPt c cc0_scratch3 f) ∗ (∃ f, bufPt
          c cc0_scratch4 f) ∗ (∃ f, bufPt c cc0_scratch5 f) ∗ (∃ f, bufPt c cc0_scratch6 f) ∗ (∃ f, bufPt c cc0_scratch7 f) ∗ (∃ f, bufPt c
          cc0_scratch8 f) ∗ (∃ f, bufPt c cc0_scratch9 f)) := by
  rw [scopedRest0_eq]; simp only [bufPt_eq]

/-- The state around the body on core `c`: the scratch buffers at anything, the semaphores at zero, what it reads at its
    contents on entry, what it writes at `g`. -/
def state (c : Dev nD) (g : (b : Ref sig .tc) → Buf (Elt F) ((c : Thread nD τ).loc b)) : sProp 𝕄 :=
  iprop(Pipeline.scopedRest (Ix := Unit) (Name := ℕ) (U := Pipeline.UD sig nD τ) (Lvl := ℕ) (Val := Elt F) cfg0.spec c
    ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} V m c b) ∗ bigSep R0 fun b => ((c : Thread nD τ).loc b) ↦{fullShare} g b)

theorem state_eq (c : Dev nD) (g : (b : Ref sig .tc) → Buf (Elt F) ((c : Thread nD τ).loc b)) : state m c g
    = iprop(iprop((∃ f, bufPt c cc0_scratch0 f) ∗ (∃ f, bufPt c cc0_scratch1 f) ∗ (∃ f, bufPt c cc0_scratch2 f) ∗ (∃ f, bufPt c cc0_scratch3 f) ∗ (∃ f, bufPt
          c cc0_scratch4 f) ∗ (∃ f, bufPt c cc0_scratch5 f) ∗ (∃ f, bufPt c cc0_scratch6 f) ∗ (∃ f, bufPt c cc0_scratch7 f) ∗ (∃ f, bufPt c
          cc0_scratch8 f) ∗ (∃ f, bufPt c cc0_scratch9 f))
        ∗ iprop(semVal ((c : Thread nD τ), SemLoc.dma 0) 0 ∗ semVal ((c : Thread nD τ), SemLoc.dma 1) 0 ∗ semVal ((c : Thread nD τ), SemLoc.dma 2) 0 ∗
          semVal ((c : Thread nD τ), SemLoc.dma 3) 0 ∗ semVal ((c : Thread nD τ), SemLoc.dma 4) 0 ∗ semVal ((c : Thread nD τ), SemLoc.dma 5) 0 ∗
          semVal ((c : Thread nD τ), SemLoc.dma 6) 0 ∗ semVal ((c : Thread nD τ), SemLoc.dma 7) 0 ∗ semVal ((c : Thread nD τ), SemLoc.dma 8) 0 ∗
          semVal ((c : Thread nD τ), SemLoc.dma 9) 0 ∗ semVal ((c : Thread nD τ), SemLoc.dma 10) 0 ∗ semVal ((c : Thread nD τ), SemLoc.dma 11) 0 ∗
          semVal ((c : Thread nD τ), SemLoc.dma 12) 0 ∗ semVal ((c : Thread nD τ), SemLoc.dma 13) 0 ∗ semVal ((c : Thread nD τ), SemLoc.dma 14) 0 ∗
          semVal ((c : Thread nD τ), SemLoc.dma 15) 0 ∗ semVal ((c : Thread nD τ), SemLoc.dma 16) 0 ∗ semVal ((c : Thread nD τ), SemLoc.dma 17) 0 ∗
          semVal ((c : Thread nD τ), SemLoc.dma 18) 0 ∗ semVal ((c : Thread nD τ), SemLoc.dma 19) 0 ∗ semVal ((c : Thread nD τ), SemLoc.dma 20) 0 ∗
          semVal ((c : Thread nD τ), SemLoc.dma 21) 0 ∗ semVal ((c : Thread nD τ), SemLoc.dma 22) 0 ∗ semVal ((c : Thread nD τ), SemLoc.dma 23) 0 ∗
          semVal ((c : Thread nD τ), SemLoc.dma 24) 0 ∗ semVal ((c : Thread nD τ), SemLoc.dma 25) 0 ∗ semVal ((c : Thread nD τ), SemLoc.dma 26) 0 ∗
          semVal ((c : Thread nD τ), SemLoc.dma 27) 0 ∗ semVal ((c : Thread nD τ), SemLoc.dma 28) 0 ∗ semVal ((c : Thread nD τ), SemLoc.dma 29) 0 ∗
          semVal ((c : Thread nD τ), SemLoc.dma 30) 0 ∗ semVal ((c : Thread nD τ), SemLoc.dma 31) 0 ∗ semVal ((c : Thread nD τ), SemLoc.dma 32) 0 ∗
          semVal ((c : Thread nD τ), SemLoc.dma 33) 0 ∗ semVal ((c : Thread nD τ), SemLoc.dma 34) 0 ∗ semVal ((c : Thread nD τ), SemLoc.dma 35) 0 ∗
          semVal ((c : Thread nD τ), SemLoc.dma 36) 0 ∗ semVal ((c : Thread nD τ), SemLoc.dma 37) 0 ∗ semVal ((c : Thread nD τ), SemLoc.dma 38) 0 ∗
          semVal ((c : Thread nD τ), SemLoc.dma 39) 0 ∗ semVal ((c : Thread nD τ), SemLoc.dma 40) 0 ∗ semVal ((c : Thread nD τ), SemLoc.dma 41) 0 ∗
          semVal ((c : Thread nD τ), SemLoc.dma 42) 0 ∗ semVal ((c : Thread nD τ), SemLoc.dma 43) 0 ∗ semVal ((c : Thread nD τ), SemLoc.dma 44) 0 ∗
          semVal ((c : Thread nD τ), SemLoc.dma 45) 0)
        ∗ iprop(bufPt c main_v0 (V m c main_v0) ∗ bufPt c main_arg1 (V m c main_arg1) ∗ bufPt c main_v1 (V m c main_v1) ∗ bufPt c main_v2 (V m c main_v2) ∗
          bufPt c main_arg4 (V m c main_arg4))
        ∗ iprop(bufPt c main_v3_0 (g main_v3_0) ∗ bufPt c main_v3_1 (g main_v3_1) ∗ bufPt c main_v3_2 (g main_v3_2))) := by
  unfold state; rw [scratch_eq, ownSems00_eq, reads_eq, writes_eq]

/-! ## The proof data and the body -/

/-- The call's proof data on core `c`: no window; the state before the one point and after it. -/
def dats (_ : Fin 1) (c : Dev nD) : Dat τ (Elt F) Unit ℕ (Pipeline.UD sig nD τ) ℕ cfg0 c where
  A w := w.elim0
  after w _ := w.elim0
  Φ t := state m c (if t = 0 then V m c else G m c)
  q _ := fullShare
  owed _ := 0

theorem A_eq (c : Dev nD) (w : Fin cfg0.W) : (dats m 0 c).A w = V0 m c (Proc.devRef .tc (Pipeline.arrRef cfg0.spec w)) := w.elim0
theorem before (c : Dev nD) : (dats m 0 c).Φ (t0_0.castSucc) = state m c (V m c) := by
  dsimp only [dats]; rw [if_pos (by decide)]
theorem behind (c : Dev nD) : (dats m 0 c).Φ (t0_0.succ) = state m c (G m c) := by
  dsimp only [dats]; rw [if_neg (by decide)]

def bodyPre (c : Dev nD) : sProp 𝕄 :=
  iprop((dats m 0 c).Φ t0_0.castSucc ∗ (dats m 0 c).owesAt () t0_0.castSucc ∗ emp)
def bodyPost (c : Dev nD) : PUnit → sProp 𝕄 := fun _ =>
  iprop((dats m 0 c).Φ t0_0.succ ∗ (dats m 0 c).owesAt () t0_0.succ ∗ emp)

set_option maxHeartbeats 1600000 in
/-- The body takes the state before its point to the state after it. -/
theorem sound_body (c : Dev nD) :
    bodyPre m c ⊢ wp frame (wpE (defs₀ (F := F)) Variants.none c none) Set.univ (bodyAt0 t0_0) (bodyPost m c) := by
  unfold bodyPre bodyPost
  rw [before, behind, state_eq, state_eq, G_y, G_codes, G_scale]
  unfold Dat.owesAt Pipeline.owesWithin
  rw [show (dats m 0 c).owed t0_0.castSucc = 0 from rfl, show (dats m 0 c).owed t0_0.succ = 0 from rfl]
  iintro ⟨⟨⟨⟨%fSx, Sx⟩, ⟨%fSw, Sw⟩, ⟨%fSws, Sws⟩, ⟨%fSa, Sa⟩, ⟨%fSb, Sb⟩, ⟨%fSy, Sy⟩, ⟨%fSc, Sc⟩, ⟨%fScol, Scol⟩, ⟨%fSrow, Srow⟩, ⟨%fSt, St⟩⟩,
    ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45⟩,
    ⟨Hx, Hw, Hws, Ha, Hb⟩, ⟨Hy, Hc, Hs⟩⟩, ⟨%W, -, HW⟩, -⟩
  iapply ((kernelRun c (V m c main_v0) (V m c main_arg1) (V m c main_v1) (V m c main_v2) (V m c main_arg4)).2.2.2 (V m c main_v3_0) (V m c main_v3_1) (V m c main_v3_2) fSx fSw fSws fSa fSb fSy fSc fScol fSrow fSt W _)
  isplitl [Hx]; · iexact Hx
  isplitl [Hw]; · iexact Hw
  isplitl [Hws]; · iexact Hws
  isplitl [Ha]; · iexact Ha
  isplitl [Hb]; · iexact Hb
  isplitl [Hy]; · iexact Hy
  isplitl [Hc]; · iexact Hc
  isplitl [Hs]; · iexact Hs
  isplitl [Sx]; · iexact Sx
  isplitl [Sw]; · iexact Sw
  isplitl [Sws]; · iexact Sws
  isplitl [Sa]; · iexact Sa
  isplitl [Sb]; · iexact Sb
  isplitl [Sy]; · iexact Sy
  isplitl [Sc]; · iexact Sc
  isplitl [Scol]; · iexact Scol
  isplitl [Srow]; · iexact Srow
  isplitl [St]; · iexact St
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [Q32]; · iexact Q32
  isplitl [Q33]; · iexact Q33
  isplitl [Q34]; · iexact Q34
  isplitl [Q35]; · iexact Q35
  isplitl [Q36]; · iexact Q36
  isplitl [Q37]; · iexact Q37
  isplitl [Q38]; · iexact Q38
  isplitl [Q39]; · iexact Q39
  isplitl [Q40]; · iexact Q40
  isplitl [Q41]; · iexact Q41
  isplitl [Q42]; · iexact Q42
  isplitl [Q43]; · iexact Q43
  isplitl [Q44]; · iexact Q44
  isplitl [Q45]; · iexact Q45
  isplitl [HW]; · iexact HW
  rw [y_result, codes_result, scale_result]
  iintro ⟨Hx, Hw, Hws, Ha, Hb, Hy, Hc, Hs, Sx, Sw, Sws, Sa, Sb, Sy, Sc, Scol, Srow, St, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, Q32, Q33, Q34, Q35, Q36, Q37, Q38, Q39, Q40, Q41, Q42, Q43, Q44, Q45, ⟨%W', HW'⟩⟩
  isplitl [Sx Sw Sws Sa Sb Sy Sc Scol Srow St Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45 Hx Hw Hws Ha Hb Hy Hc Hs]
  · isplitl [Sx Sw Sws Sa Sb Sy Sc Scol Srow St]
    · skip
      isplitl [Sx]; · iexact Sx
      isplitl [Sw]; · iexact Sw
      isplitl [Sws]; · iexact Sws
      isplitl [Sa]; · iexact Sa
      isplitl [Sb]; · iexact Sb
      isplitl [Sy]; · iexact Sy
      isplitl [Sc]; · iexact Sc
      isplitl [Scol]; · iexact Scol
      isplitl [Srow]; · iexact Srow
      iexact St
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 Q32 Q33 Q34 Q35 Q36 Q37 Q38 Q39 Q40 Q41 Q42 Q43 Q44 Q45]
    · skip
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      isplitl [Q31]; · iexact Q31
      isplitl [Q32]; · iexact Q32
      isplitl [Q33]; · iexact Q33
      isplitl [Q34]; · iexact Q34
      isplitl [Q35]; · iexact Q35
      isplitl [Q36]; · iexact Q36
      isplitl [Q37]; · iexact Q37
      isplitl [Q38]; · iexact Q38
      isplitl [Q39]; · iexact Q39
      isplitl [Q40]; · iexact Q40
      isplitl [Q41]; · iexact Q41
      isplitl [Q42]; · iexact Q42
      isplitl [Q43]; · iexact Q43
      isplitl [Q44]; · iexact Q44
      iexact Q45
    isplitl [Hx Hw Hws Ha Hb]
    · skip
      isplitl [Hx]; · iexact Hx
      isplitl [Hw]; · iexact Hw
      isplitl [Hws]; · iexact Hws
      isplitl [Ha]; · iexact Ha
      iexact Hb
    isplitl [Hy]; · iexact Hy
    isplitl [Hc]; · iexact Hc
    iexact Hs
  isplitl [HW']
  · iexists W'; isplitr; · ipureintro; exact fun _ _ => Or.inl trivial
    iexact HW'
  iempintro

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  obtain rfl := fin_N0 t
  rw [Finset.univ_eq_empty, bigSep_empty, bigSep_empty, defs₀_row]
  exact triple_restated (sound_body m c) rfl .rfl fun _ => .rfl

/-! ## The run -/

set_option maxHeartbeats 800000 in
/-- @main is its host lines, the kernel call, its host lines. -/
theorem hmain : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The contents core `c` ends at: the last host lines run from the region's contents with the three results written. -/
def ending (c : Dev nD) : Valuation τ sig (Elt F) :=
  StableHlo.after [hostOps1].flatten (Pipeline.withArrays cfg0.spec c (Pipeline.withR (V0 m c) R0 c (G m c))
    fun w => (dats m 0 c).arrAt w cfg0.N)

set_option backward.isDefEq.respectTransparency.types false in
/-- The program runs to `ending` with every semaphore counter back at zero. -/
theorem run_main : θ_run defs (onTc (τ := τ) (main (F := F))) (s₀ m ρ) (fun r =>
    (∀ c : Dev nD, (∀ w, r.2.mem ((cfg0.spec w).arr.view.loc (c.tc : Thread nD τ)) = (dats m 0 c).arrAt w cfg0.N)
      ∧ ∀ b ∈ Pipeline.restRefs sig cfg0.spec, r.2.mem ((c.tc : Thread nD τ).loc b) = ending m c (Proc.devRef .tc b))
    ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G m) (hmain := hmain m) (hA := A_eq m)
    (hin := fun c => Entails.of_eq (before m c).symm) (hout := fun c => Entails.of_eq (behind m c))

/-! ## What it ends at -/

theorem mid_read (c : Dev nD) (b : Ref sig .tc) : Pipeline.withArrays cfg0.spec c (Pipeline.withR (V0 m c) R0 c (G m c))
    (fun w => (dats m 0 c).arrAt w cfg0.N) (Proc.devRef .tc b) = Pipeline.withR (V0 m c) R0 c (G m c) (Proc.devRef .tc b) :=
  Pipeline.withArrays_of_ne _ c _ _ b fun w => w.elim0

/-- A buffer the last host lines and the body leave alone ends as the region found it. -/
theorem ending_kept (c : Dev nD) (b : Ref sig .tc) (hR : b ∉ R0) (h4 : b ≠ main_v4) (h5 : b ≠ main_v5) (h6 : b ≠ main_v6) :
    ending m c (Proc.devRef .tc b) = V m c b := by
  unfold ending
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h4, StableHlo.devRef_ne_of_ne h5, StableHlo.devRef_ne_of_ne h6⟩)),
    mid_read, Pipeline.withR_of_not_mem _ _ _ _ b hR]

/-- `y` at the program's end. -/
theorem ending_y (c : Dev nD) : ending m c (Proc.devRef .tc main_v4)
    = shapeCast S1x384x5120 (yAll (V m c main_v0) (V m c main_arg1) (V m c main_v1) (V m c main_v2) (V m c main_arg4))
        shapeCasts_S384x5120_S1x384x5120 := by
  unfold ending
  simp only [List.flatten_cons, List.flatten_nil, List.append_nil]
  after_results
  rw [mid_read, Pipeline.withR_of_mem _ _ _ _ main_v3_0 (by decide), G_y]
  rfl
/-- The codes at the program's end. -/
theorem ending_codes (c : Dev nD) : ending m c (Proc.devRef .tc main_v5)
    = shapeCast S1x384x5120 (codesAll (V m c main_v0)) shapeCasts_S384x5120_S1x384x5120 := by
  unfold ending
  simp only [List.flatten_cons, List.flatten_nil, List.append_nil]
  after_results
  rw [mid_read, Pipeline.withR_of_mem _ _ _ _ main_v3_1 (by decide), G_codes]
  rfl
/-- The scales at the program's end. -/
theorem ending_scale (c : Dev nD) : ending m c (Proc.devRef .tc main_v6)
    = shapeCast S1x384x1 (scaleRow (V m c main_v0)) shapeCasts_S1x384_S1x384x1 := by
  unfold ending
  simp only [List.flatten_cons, List.flatten_nil, List.append_nil]
  after_results
  rw [mid_read, Pipeline.withR_of_mem _ _ _ _ main_v3_2 (by decide), G_scale]
  rfl

/-- The whole program: it terminates without a fault, the five arguments end as they were, every semaphore counter ends at
    zero, and the three results are the reshapes of `yAll`, `codesAll` and `scaleRow` at what the first host lines make of
    the arguments. -/
theorem run_values : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4)
          = shapeCast S1x384x5120 (yAll (V m c main_v0) (V m c main_arg1) (V m c main_v1) (V m c main_v2) (V m c main_arg4))
              shapeCasts_S384x5120_S1x384x5120
      ∧ r.2.mem ((c.tc : Thread nD τ).loc main_v5)
          = shapeCast S1x384x5120 (codesAll (V m c main_v0)) shapeCasts_S384x5120_S1x384x5120
      ∧ r.2.mem ((c.tc : Thread nD τ).loc main_v6)
          = shapeCast S1x384x1 (scaleRow (V m c main_v0)) shapeCasts_S1x384_S1x384x1)
      ∧ r.2.sem = fun _ => 0) :=
  (θ_run defs _ _).mono (fun r h => ⟨fun c =>
    have k := fun b hb => (h.1 c).2 b hb
    ⟨⟨(k main_arg0 (by decide)).trans ((ending_kept m c main_arg0 (by decide) (by decide) (by decide) (by decide)).trans (V_main_arg0 m c)),
      (k main_arg1 (by decide)).trans ((ending_kept m c main_arg1 (by decide) (by decide) (by decide) (by decide)).trans (V_main_arg1 m c)),
      (k main_arg2 (by decide)).trans ((ending_kept m c main_arg2 (by decide) (by decide) (by decide) (by decide)).trans (V_main_arg2 m c)),
      (k main_arg3 (by decide)).trans ((ending_kept m c main_arg3 (by decide) (by decide) (by decide) (by decide)).trans (V_main_arg3 m c)),
      (k main_arg4 (by decide)).trans ((ending_kept m c main_arg4 (by decide) (by decide) (by decide) (by decide)).trans (V_main_arg4 m c))⟩,
    (k main_v4 (by decide)).trans (ending_y m c), (k main_v5 (by decide)).trans (ending_codes m c),
    (k main_v6 (by decide)).trans (ending_scale m c)⟩, h.2⟩) (run_main m ρ)

/-- The program's frame: it terminates without a fault, its arguments end as they were, every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h.1 c).1, h.2⟩) (run_values m ρ)

end Cert.KernelIdeal.Hand
end
-- ==== Proof.KernelIdeal.Field.lean ====
/-
  Hand-written. One row's scale, over the extended reals: the powers of two that a 32-bit float's exponent field names, the
  kernel's eight-step search for that field and the two powers it forms from it, and the reference's least power of two
  above the value. Both give the same scale and the same inverse of it.
-/
module
public import Idealize.ShloMosaic.PureOps.Ideal
public import Idealize.ShloMosaic.PureOps.Vector
@[expose] public section
set_option maxRecDepth 16384
noncomputable section
namespace Cert.KernelIdeal.Value
open Idealize.ShloMosaic

/-! ## The powers of two an exponent field names -/

/-- The float whose exponent field is `n` and whose other bits are zero. -/
def P (n : ℕ) : EReal := Ideal.ofBits .f32 (BitVec.ofNat 32 n <<< 23)

theorem word_parts (n : Fin 256) :
    ((BitVec.ofNat 32 n.val <<< 23).extractLsb' (8 + 23) 1 == 1#1) = false
    ∧ ((BitVec.ofNat 32 n.val <<< 23).extractLsb' 23 8).toNat = n.val
    ∧ ((BitVec.ofNat 32 n.val <<< 23).extractLsb' 0 23).toNat = 0 := by
  revert n; decide

/-- A word of sign and fraction zero, by its exponent field. -/
theorem ieee_parts (b : BitVec 32) (n : ℕ) (h1 : (b.extractLsb' (8 + 23) 1 == 1#1) = false) (h2 : (b.extractLsb' 23 8).toNat = n)
    (h3 : (b.extractLsb' 0 23).toNat = 0) :
    Ideal.ieee 8 23 b = if n = 255 then ⊤ else if n = 0 then 0 else (((2 : ℝ) ^ ((n : ℤ) - 127) : ℝ) : EReal) := by
  unfold Ideal.ieee
  simp only [h1, h2, h3, Bool.false_eq_true, if_false, if_true]
  rw [show 2 ^ 8 - 1 = 255 from rfl]
  by_cases e1 : n = 255
  · rw [if_pos e1, if_pos e1]
  · rw [if_neg e1, if_neg e1]
    by_cases e2 : n = 0
    · rw [if_pos e2, if_pos e2]
      rw [Nat.cast_zero, mul_zero, zero_mul, EReal.coe_zero]
    · rw [if_neg e2, if_neg e2]
      congr 1
      have h2 : (2 : ℝ) ≠ 0 := two_ne_zero
      rw [one_mul, Nat.add_zero, Nat.cast_pow, Nat.cast_ofNat, ← zpow_natCast, ← zpow_add₀ h2]
      congr 1
      push_cast; ring

/-- Its value: zero at field 0, infinity at field 255, `2^(n-127)` between. -/
theorem P_eq (n : ℕ) (h : n < 256) :
    P n = if n = 255 then ⊤ else if n = 0 then 0 else (((2 : ℝ) ^ ((n : ℤ) - 127) : ℝ) : EReal) := by
  obtain ⟨h1, h2, h3⟩ := word_parts ⟨n, h⟩
  simp only at h1 h2 h3
  unfold P
  exact ieee_parts _ n h1 h2 h3

theorem P_zero : P 0 = 0 := by rw [P_eq 0 (by norm_num)]; norm_num
theorem P_top : P 255 = ⊤ := by rw [P_eq 255 (by norm_num)]; norm_num
theorem P_mid (n : ℕ) (h0 : 0 < n) (h : n < 255) : P n = (((2 : ℝ) ^ ((n : ℤ) - 127) : ℝ) : EReal) := by
  rw [P_eq n (by omega), if_neg (by omega), if_neg (by omega)]
theorem P_one' : P 127 = 1 := by rw [P_mid 127 (by norm_num) (by norm_num)]; norm_num

/-- They increase with the field. -/
theorem P_lt {a b : ℕ} (hab : a < b) (hb : b < 256) : P a < P b := by
  by_cases e : b = 255
  · subst e
    rw [P_top]
    by_cases e2 : a = 0
    · subst e2; rw [P_zero]; exact EReal.zero_lt_top
    · rw [P_mid a (by omega) (by omega)]; exact EReal.coe_lt_top _
  · rw [P_mid b (by omega) (by omega)]
    by_cases e2 : a = 0
    · subst e2; rw [P_zero]; exact EReal.coe_pos.mpr (by positivity)
    · rw [P_mid a (by omega) (by omega)]
      refine EReal.coe_lt_coe_iff.mpr ?_
      exact zpow_lt_zpow_right₀ (by norm_num) (by omega)
theorem P_le {a b : ℕ} (hab : a ≤ b) (hb : b < 256) : P a ≤ P b := by
  rcases Nat.lt_or_eq_of_le hab with h | h
  · exact (P_lt h hb).le
  · rw [h]

/-- `n` is the exponent field of `u`: `u` lies from `P n` up to the next. -/
def IsField (u : EReal) (n : ℕ) : Prop := n < 256 ∧ P n ≤ u ∧ (n < 255 → u < P (n + 1))

theorem lt_P_iff {u : EReal} {n : ℕ} (h : IsField u n) {k : ℕ} (hk : k < 256) : u < P k ↔ n < k := by
  constructor
  · intro hu
    by_contra hn
    exact absurd (lt_of_lt_of_le hu (P_le (not_lt.mp hn) h.1)) (not_lt.mpr h.2.1)
  · intro hn
    exact lt_of_lt_of_le (h.2.2 (by omega)) (P_le hn hk)

/-! ## The kernel's search -/

/-- One step of the search, on one row. -/
def step (u : EReal) (b f : BitVec 32) : BitVec 32 :=
  Scalar.select (FloatOps.cmpf (F := Ideal) (φ := .f32) .oge u (FloatOps.ofBits .f32 (IntOp.shli .vector (IntOp.addi f b) 23#32)))
    (IntOp.addi f b) f

/-- The search, on one row. -/
def search (u : EReal) : BitVec 32 :=
  step u 1#32 (step u 2#32 (step u 4#32 (step u 8#32 (step u 16#32 (step u 32#32 (step u 64#32 (step u 128#32 0#32)))))))

theorem step_eq (u : EReal) (n b : ℕ) :
    step u (BitVec.ofNat 32 b) (BitVec.ofNat 32 n) = if P (n + b) ≤ u then BitVec.ofNat 32 (n + b) else BitVec.ofNat 32 n := by
  have e : IntOp.shli .vector (IntOp.addi (BitVec.ofNat 32 n) (BitVec.ofNat 32 b)) 23#32 = BitVec.ofNat 32 (n + b) <<< 23 := by
    show (BitVec.ofNat 32 n + BitVec.ofNat 32 b) <<< 23 = _
    rw [BitVec.ofNat_add]
  unfold step
  rw [e]
  show (if (BitVec.ofBool (decide (P (n + b) ≤ u))) = 1#1 then (BitVec.ofNat 32 n + BitVec.ofNat 32 b) else BitVec.ofNat 32 n) = _
  rw [← BitVec.ofNat_add]
  by_cases h : P (n + b) ≤ u
  · rw [if_pos h, decide_eq_true h]; rfl
  · rw [if_neg h, decide_eq_false h]; rfl

/-- What a step keeps: the field lies in the `2 b` values from the field so far. -/
theorem step_keeps (u : EReal) (b : ℕ) (f : BitVec 32)
    (hf : ∃ n : ℕ, f = BitVec.ofNat 32 n ∧ n + 2 * b ≤ 256 ∧ P n ≤ u ∧ (n + 2 * b < 256 → u < P (n + 2 * b))) :
    ∃ n : ℕ, step u (BitVec.ofNat 32 b) f = BitVec.ofNat 32 n ∧ n + b ≤ 256 ∧ P n ≤ u ∧ (n + b < 256 → u < P (n + b)) := by
  obtain ⟨n, rfl, h1, h2, h3⟩ := hf
  rw [step_eq]
  by_cases h : P (n + b) ≤ u
  · rw [if_pos h]
    refine ⟨n + b, rfl, by omega, h, fun hl => ?_⟩
    rw [show n + b + b = n + 2 * b by ring]
    exact h3 (by omega)
  · rw [if_neg h]
    exact ⟨n, rfl, by omega, h2, fun _ => not_le.mp h⟩

/-- The search finds the exponent field of any value that is not negative. -/
theorem search_isField (u : EReal) (hu : 0 ≤ u) : ∃ n : ℕ, search u = BitVec.ofNat 32 n ∧ IsField u n := by
  have s0 : ∃ n : ℕ, 0#32 = BitVec.ofNat 32 n ∧ n + 2 * 128 ≤ 256 ∧ P n ≤ u ∧ (n + 2 * 128 < 256 → u < P (n + 2 * 128)) :=
    ⟨0, rfl, by norm_num, by rw [P_zero]; exact hu, fun h => absurd h (by norm_num)⟩
  have s1 := step_keeps u 128 _ s0
  have s2 := step_keeps u 64 _ s1
  have s3 := step_keeps u 32 _ s2
  have s4 := step_keeps u 16 _ s3
  have s5 := step_keeps u 8 _ s4
  have s6 := step_keeps u 4 _ s5
  have s7 := step_keeps u 2 _ s6
  have s8 := step_keeps u 1 _ s7
  obtain ⟨n, e, h1, h2, h3⟩ := s8
  exact ⟨n, e, by omega, h2, fun h => h3 (by omega)⟩

/-! ## The two powers the kernel forms -/

/-- The scale's exponent from the field, on one row. -/
def expoWord (f : BitVec 32) : BitVec 32 :=
  Scalar.select (IntOp.ori (IntOp.cmpi .eq f 0#32) (IntOp.cmpi .eq f 255#32)) 0#32 (IntOp.subi f 126#32)

/-- The word of the power of two at an exponent, on one row. -/
def powWord (e : BitVec 32) : BitVec 32 :=
  Scalar.select (IntOp.cmpi .sle (IntOp.addi e 127#32) 0#32) 0#32
    (Scalar.select (IntOp.cmpi .sge (IntOp.addi e 127#32) 255#32) 2139095040#32 (IntOp.shli .vector (IntOp.addi e 127#32) 23#32))

/-- The field of the scale, from the field of the value. -/
def scaleField (n : ℕ) : ℕ := if n = 0 ∨ n = 255 then 127 else n + 1
/-- The field of its inverse. -/
def inverseField (n : ℕ) : ℕ := if n = 0 ∨ n = 255 then 127 else 253 - n

theorem powWord_scale (n : Fin 256) : powWord (expoWord (BitVec.ofNat 32 n.val)) = BitVec.ofNat 32 (scaleField n.val) <<< 23 := by
  revert n; decide
theorem powWord_inverse (n : Fin 256) :
    powWord (IntOp.subi 0#32 (expoWord (BitVec.ofNat 32 n.val))) = BitVec.ofNat 32 (inverseField n.val) <<< 23 := by
  revert n; decide

/-- The scale's exponent from a row's largest magnitude, on one row. -/
def rowExpo (a : EReal) : BitVec 32 :=
  Scalar.select (FloatOps.cmpf (F := Ideal) (φ := .f32) .oeq a (Ideal.ofBits .f32 0x00000000#32)) 0#32
    (expoWord (search (a * Ideal.ofBits .f32 0x3B124925#32)))

theorem ofBits_zero : Ideal.ofBits .f32 0x00000000#32 = 0 := P_zero
theorem ofBits_one : Ideal.ofBits .f32 0x3F800000#32 = 1 := P_one'
theorem ofBits_inf : Ideal.ofBits .f32 0x7F800000#32 = ⊤ := P_top
theorem ofBits_tiny : Ideal.ofBits .f32 0x00800000#32 = P 1 := rfl
theorem ofBits_third_pos : 0 ≤ Ideal.ofBits .f32 0x3B124925#32 := by
  unfold Ideal.ofBits Ideal.ieee
  simp only [show ((0x3B124925#32 : BitVec 32).extractLsb' (8 + 23) 1 == 1#1) = false by decide,
    show ((0x3B124925#32 : BitVec 32).extractLsb' 23 8).toNat = 118 by decide]
  rw [if_neg (by norm_num), if_neg (by norm_num)]
  refine EReal.coe_nonneg.mpr ?_
  simp only [Bool.false_eq_true, if_false, one_mul]
  positivity

/-- The test for zero changes nothing: the value zero has field zero, and that field's exponent is zero. -/
theorem rowExpo_eq (a : EReal) (ha : 0 ≤ a) :
    ∃ n : ℕ, rowExpo a = expoWord (BitVec.ofNat 32 n) ∧ IsField (a * Ideal.ofBits .f32 0x3B124925#32) n := by
  have hu : 0 ≤ a * Ideal.ofBits .f32 0x3B124925#32 := mul_nonneg ha ofBits_third_pos
  obtain ⟨n, e, h⟩ := search_isField _ hu
  refine ⟨n, ?_, h⟩
  unfold rowExpo
  rw [e]
  by_cases h0 : a = 0
  · have hn : n = 0 := by
      have : a * Ideal.ofBits .f32 0x3B124925#32 < P 1 := by
        rw [h0, zero_mul, ← P_zero]; exact P_lt (by norm_num) (by norm_num)
      have := (lt_P_iff h (by norm_num)).mp this
      omega
    subst hn
    show Scalar.select (BitVec.ofBool (decide (a = Ideal.ofBits .f32 0x00000000#32))) _ _ = _
    rw [ofBits_zero, decide_eq_true h0]
    decide
  · show Scalar.select (BitVec.ofBool (decide (a = Ideal.ofBits .f32 0x00000000#32))) _ _ = _
    rw [ofBits_zero, decide_eq_false h0]
    rfl

/-- The kernel's scale on one row. -/
def kScale (a : EReal) : EReal := Ideal.ofBits .f32 (powWord (rowExpo a))
/-- The kernel's inverse on one row. -/
def kInverse (a : EReal) : EReal := Ideal.ofBits .f32 (powWord (IntOp.subi 0#32 (rowExpo a)))

/-! ## The reference's scale -/

/-- The reference's scale on one row, from the value and the table of powers. -/
def rScale (a : EReal) (T : Fin 253 → EReal) : EReal :=
  Scalar.select (IntOp.ori
      (FloatOps.cmpf (F := Ideal) (φ := .f32) .olt (a * Ideal.ofBits .f32 0x3B124925#32) (Ideal.ofBits .f32 0x00800000#32))
      (FloatOps.cmpf (F := Ideal) (φ := .f32) .oeq (a * Ideal.ofBits .f32 0x3B124925#32) (Ideal.ofBits .f32 0x7F800000#32)))
    (Ideal.ofBits .f32 0x3F800000#32)
    ((Finset.univ : Finset (Fin 253)).fold min (Ideal.ofBits .f32 0x7F800000#32) fun k =>
      Scalar.select (FloatOps.cmpf (F := Ideal) (φ := .f32) .olt (a * Ideal.ofBits .f32 0x3B124925#32) (T k)) (T k)
        (Ideal.ofBits .f32 0x7F800000#32))

/-- The reference's inverse of a scale. -/
def rInverse (s : EReal) : EReal :=
  Scalar.select (FloatOps.cmpf (F := Ideal) (φ := .f32) .olt (Ideal.div (Ideal.ofBits .f32 0x3F800000#32) s) (Ideal.ofBits .f32 0x00800000#32))
    (Ideal.ofBits .f32 0x00000000#32) (Ideal.div (Ideal.ofBits .f32 0x3F800000#32) s)

theorem select_decide {α : Type} (p : Prop) [Decidable p] (x y : α) :
    Scalar.select (BitVec.ofBool (decide p)) x y = if p then x else y := by
  by_cases h : p
  · rw [if_pos h, decide_eq_true h]; rfl
  · rw [if_neg h, decide_eq_false h]; rfl

theorem select_or_decide {α : Type} (p q : Prop) [Decidable p] [Decidable q] (x y : α) :
    Scalar.select (IntOp.ori (BitVec.ofBool (decide p)) (BitVec.ofBool (decide q))) x y = if p ∨ q then x else y := by
  by_cases h : p <;> by_cases h' : q <;> simp only [h, h', decide_true, decide_false, or_true, true_or, or_false, if_true, if_false] <;> rfl

/-- The least power of two above a value whose field is `n`, from 1 to 254. -/
theorem least_above {u : EReal} {n : ℕ} (h : IsField u n) (h0 : 0 < n) (h1 : n < 255) :
    ((Finset.univ : Finset (Fin 253)).fold min ⊤ fun k => if u < P (k.val + 2) then P (k.val + 2) else ⊤) = P (n + 1) := by
  apply le_antisymm
  · by_cases e : n = 254
    · subst e; rw [P_top]; exact le_top
    · refine Finset.fold_min_le _ |>.mpr (Or.inr ⟨⟨n - 1, by omega⟩, Finset.mem_univ _, ?_⟩)
      have e1 : n - 1 + 2 = n + 1 := by omega
      show (if u < P (n - 1 + 2) then P (n - 1 + 2) else ⊤) ≤ _
      rw [e1, if_pos (h.2.2 h1)]
  · refine Finset.le_fold_min _ |>.mpr ⟨le_top, fun k _ => ?_⟩
    by_cases e : u < P (k.val + 2)
    · rw [if_pos e]
      have := (lt_P_iff h (k := k.val + 2) (by omega)).mp e
      exact P_le (by omega) (by omega)
    · rw [if_neg e]; exact le_top

theorem rScale_eq (a : EReal) (T : Fin 253 → EReal) (hT : ∀ k, T k = P (k.val + 2)) {n : ℕ}
    (h : IsField (a * Ideal.ofBits .f32 0x3B124925#32) n) : rScale a T = P (scaleField n) := by
  have hlt : ∀ x y : EReal, FloatOps.cmpf (F := Ideal) (φ := .f32) .olt x y = BitVec.ofBool (decide (x < y)) := fun _ _ => rfl
  have heq : ∀ x y : EReal, FloatOps.cmpf (F := Ideal) (φ := .f32) .oeq x y = BitVec.ofBool (decide (x = y)) := fun _ _ => rfl
  unfold rScale
  simp only [hlt, heq, select_or_decide, select_decide, ofBits_tiny, ofBits_inf, ofBits_one, hT]
  generalize a * Ideal.ofBits .f32 0x3B124925#32 = u at h ⊢
  have i0 : u < P 1 ↔ n = 0 := by rw [lt_P_iff h (by norm_num)]; omega
  have i1 : u = ⊤ ↔ n = 255 := by
    rw [← P_top]
    constructor
    · intro e
      by_contra hn
      have := h.2.2 (by have := h.1; omega)
      rw [e, P_top] at this
      exact not_top_lt this
    · rintro rfl
      exact top_le_iff.mp (P_top ▸ h.2.1) |>.trans P_top.symm
  have i2 : (u < P 1 ∨ u = ⊤) ↔ (n = 0 ∨ n = 255) := or_congr i0 i1
  unfold scaleField
  by_cases c : n = 0 ∨ n = 255
  · rw [if_pos c, if_pos (i2.mpr c), P_one']
  · rw [if_neg c, if_neg (fun h' => c (i2.mp h'))]
    exact least_above h (by omega) (by have := h.1; omega)

theorem rInverse_eq {n : ℕ} (hn : n < 256) : rInverse (P (scaleField n)) = P (inverseField n) := by
  have hlt : ∀ x y : EReal, FloatOps.cmpf (F := Ideal) (φ := .f32) .olt x y = BitVec.ofBool (decide (x < y)) := fun _ _ => rfl
  unfold rInverse
  simp only [hlt, select_decide, ofBits_tiny, ofBits_zero, ofBits_one]
  have tiny : P 1 = (((2 : ℝ) ^ (-126 : ℤ) : ℝ) : EReal) := by rw [P_mid 1 (by norm_num) (by norm_num)]; norm_num
  by_cases c : n = 0 ∨ n = 255
  · have e : Ideal.div 1 1 = 1 := by unfold Ideal.div; rw [if_neg one_ne_zero, inv_one, one_mul]
    rw [scaleField, inverseField, if_pos c, if_pos c, P_one', e, if_neg]
    rw [← P_one']
    exact not_lt.mpr (P_lt (by norm_num) (by norm_num)).le
  · rw [scaleField, inverseField, if_neg c, if_neg c]
    by_cases e4 : n = 254
    · subst e4
      have e : Ideal.div 1 ⊤ = 0 := by unfold Ideal.div; rw [if_neg EReal.top_ne_zero, EReal.inv_top, mul_zero]
      rw [show (254 + 1 : ℕ) = 255 from rfl, P_top, e, ← P_zero, if_pos (P_lt (by norm_num) (by norm_num))]
    · have hp : (0 : ℝ) < 2 ^ (((n + 1 : ℕ) : ℤ) - 127) := by positivity
      have e : Ideal.div 1 (P (n + 1)) = (((2 : ℝ) ^ ((126 : ℤ) - n) : ℝ) : EReal) := by
        rw [P_mid (n + 1) (by omega) (by omega)]
        unfold Ideal.div
        rw [if_neg (by exact_mod_cast hp.ne'), one_mul, ← EReal.coe_inv, ← zpow_neg]
        congr 2
        push_cast; ring
      rw [e, tiny]
      by_cases e3 : n = 253
      · subst e3
        rw [if_pos (EReal.coe_lt_coe_iff.mpr (zpow_lt_zpow_right₀ (by norm_num) (by norm_num)))]
        exact P_zero.symm
      · rw [if_neg, P_mid (253 - n) (by omega) (by omega)]
        · congr 2
          rw [Nat.cast_sub (by omega)]
          push_cast; ring
        · rw [not_lt]
          refine EReal.coe_le_coe_iff.mpr (zpow_le_zpow_right₀ (by norm_num) (by omega))

/-! ## Both sides agree -/

/-- The kernel's scale is the reference's. -/
theorem kScale_eq_rScale (a : EReal) (ha : 0 ≤ a) (T : Fin 253 → EReal) (hT : ∀ k, T k = P (k.val + 2)) :
    kScale a = rScale a T := by
  obtain ⟨n, e, h⟩ := rowExpo_eq a ha
  rw [rScale_eq a T hT h]
  unfold kScale P
  rw [e, powWord_scale ⟨n, h.1⟩]

/-- The kernel's inverse is the reference's. -/
theorem kInverse_eq_rInverse (a : EReal) (ha : 0 ≤ a) (T : Fin 253 → EReal) (hT : ∀ k, T k = P (k.val + 2)) :
    kInverse a = rInverse (rScale a T) := by
  obtain ⟨n, e, h⟩ := rowExpo_eq a ha
  rw [rScale_eq a T hT h, rInverse_eq h.1]
  unfold kInverse P
  rw [e, powWord_inverse ⟨n, h.1⟩]

end Cert.KernelIdeal.Value
end
-- ==== Proof.KernelIdeal.Value.lean ====
/-
  Hand-written. What the kernel's three results hold at an index, over the extended reals, in plain sums, maxima and the
  scale of one row.
-/
module
public import proofs.«01_k».proof.Proof.KernelIdeal.Parts
public import proofs.«01_k».proof.Proof.KernelIdeal.Field
public import Idealize.ShloMosaic.Lib.MatmulPlain
public import Idealize.ShloMosaic.Lib.ValueLayout
public import Idealize.ShloMosaic.Lib.ValueLayoutCasts
@[expose] public section
set_option maxRecDepth 16384
noncomputable section
namespace Cert.KernelIdeal.Value
open Cert.KernelIdeal Cert.KernelIdeal.Gen Cert.KernelIdeal.Hand
open Idealize.ShloMosaic
open scoped BigOperators

/-! ## Shared by both programs -/

/-- The largest magnitude of a row. -/
def amax {n : ℕ} (f : Fin n → EReal) : EReal := (Finset.univ : Finset (Fin n)).fold max ⊥ fun k => max (f k) (-(f k))

/-- A largest magnitude is not negative (of a row that has an entry). -/
theorem amax_nonneg {n : ℕ} (f : Fin n → EReal) (k : Fin n) : 0 ≤ amax f := by
  refine Finset.le_fold_max _ |>.mpr (Or.inr ⟨k, Finset.mem_univ _, ?_⟩)
  rcases le_total 0 (f k) with h | h
  · exact le_max_of_le_left h
  · exact le_max_of_le_right (EReal.neg_nonneg.mpr h)

theorem negInf_bf16 : Ideal.ofBits .bf16 0xFF80#16 = ⊥ := by
  unfold Ideal.ofBits Ideal.ieee
  simp only [show ((0xFF80#16 : BitVec 16).extractLsb' (8 + 7) 1 == 1#1) = true by decide,
    show ((0xFF80#16 : BitVec 16).extractLsb' 7 8).toNat = 255 by decide,
    show ((0xFF80#16 : BitVec 16).extractLsb' 0 7).toNat = 0 by decide]
  norm_num
theorem negInf_f32 : Ideal.ofBits .f32 0xFF800000#32 = ⊥ := by
  unfold Ideal.ofBits Ideal.ieee
  simp only [show ((0xFF800000#32 : BitVec 32).extractLsb' (8 + 23) 1 == 1#1) = true by decide,
    show ((0xFF800000#32 : BitVec 32).extractLsb' 23 8).toNat = 255 by decide,
    show ((0xFF800000#32 : BitVec 32).extractLsb' 0 23).toNat = 0 by decide]
  norm_num

set_option backward.isDefEq.respectTransparency false in
/-- The largest of the magnitudes along the rows of a matrix, at a row. -/
theorem rowMax_apply {a b : ℕ} {φ : FTy} (v : FVec Ideal ⟨2, ![a, b]⟩ φ) (acc : BitVec φ.bits) (hz : Ideal.ofBits φ acc = ⊥)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ (absf v) acc h hφ hacc (ix1 i) = amax fun k => v (ix2 i k) := by
  rw [multiReduction_maximumf_eq_fold, h.fold_fiber_r2_a1]
  unfold amax
  rw [← hz]
  rfl

/-- A column broadcast along the rows of a matrix, at an index. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) (ha : a ≠ 1) :
    broadcastTo ⟨2, ![a, b]⟩ v h (ix2 i j) = v (ix2 i 0) := by
  refine Idealize.ShloMosaic.broadcastTo_apply v h (ix2 i j) (ix2 i (0 : Fin 1)) fun ax => ?_
  match ax with
  | ⟨0, _⟩ =>
    show i.val = if a = 1 then 0 else i.val
    rw [if_neg ha]
  | ⟨1, _⟩ => rfl

theorem ix2_eq {a b : ℕ} (i : Fin a) (j : Fin b) : ValueIdx.ix2 i j = ix2 i j := rfl

/-- A product of matrices on a zero accumulator, at an index. -/
theorem matmul_apply {M K N : ℕ} {φ₁ φ₂ : FTy} (lhs : FVec Ideal ⟨2, ![M, K]⟩ φ₁) (rhs : FVec Ideal ⟨2, ![K, N]⟩ φ₂) (i : Fin M) (j : Fin N) :
    FloatOps.matmul (DotDims.plain M K N) none lhs rhs (constant ⟨2, ![M, N]⟩ .f32 0x00000000#32) (ix2 i j)
      = ∑ k : Fin K, lhs (ix2 i k) * rhs (ix2 k j) := by
  refine (Ideal.matmul_plain_apply none lhs rhs _ i j).trans ?_
  rw [show (constant ⟨2, ![M, N]⟩ .f32 0x00000000#32 : FVec Ideal ⟨2, ![M, N]⟩ .f32) (ValueIdx.ix2 i j) = 0 from ofBits_zero, zero_add]
  rfl
/-- The same with the second factor transposed. -/
theorem matmulT_apply {M K N : ℕ} {φ₁ φ₂ : FTy} (lhs : FVec Ideal ⟨2, ![M, K]⟩ φ₁) (rhs : FVec Ideal ⟨2, ![N, K]⟩ φ₂) (i : Fin M) (j : Fin N) :
    FloatOps.matmul (DotDims.transposedRhs M K N) none lhs rhs (constant ⟨2, ![M, N]⟩ .f32 0x00000000#32) (ix2 i j)
      = ∑ k : Fin K, lhs (ix2 i k) * rhs (ix2 j k) := by
  refine (Ideal.matmul_transposedRhs_apply none lhs rhs _ i j).trans ?_
  rw [show (constant ⟨2, ![M, N]⟩ .f32 0x00000000#32 : FVec Ideal ⟨2, ![M, N]⟩ .f32) (ValueIdx.ix2 i j) = 0 from ofBits_zero, zero_add]
  rfl

/-- A row's code at a column: the entry times the scale's inverse, clipped to the format's range. -/
def code (x inv : EReal) : EReal := min (Ideal.ofBits .f32 0x43E00000#32) (max (Ideal.ofBits .f32 0xC3E00000#32) (x * inv))

/-- `y` at an index, from the row of codes, the scale, the column of weights, its scale and the low-rank product. -/
def yAt {K R : ℕ} (c w : Fin K → EReal) (s ws : EReal) (t b : Fin R → EReal) : EReal :=
  (∑ k, c k * w k) * s * ws + Ideal.ofBits .f32 0x40000000#32 * ∑ r, t r * b r

/-! ## One chunk -/

theorem chunkMax_apply (v : Vec Ideal S64x5120 .bf16) (i : Fin 64) : chunkMax v (ix2 i 0) = amax fun k => v (ix2 i k) := by
  unfold chunkMax k0_pay1
  have e := rowMax_apply (a := 64) (b := 5120) (φ := .bf16) v 0xFF80#16 negInf_bf16 reduces_S64x5120_S64 (.inr rfl) rfl i
  rw [← e]
  have e2 := ValueIdx.shapeCast_a_a1_apply (multiReduction (F := Ideal) (φ := .bf16) .maximumf [1] S64 (absf v) 0xFF80#16 reduces_S64x5120_S64 (.inr rfl) rfl) shapeCasts_S64_S64x1 i 0
  generalize multiReduction (F := Ideal) (φ := .bf16) .maximumf [1] S64 (absf v) 0xFF80#16 reduces_S64x5120_S64 (.inr rfl) rfl = z at e2 ⊢
  exact e2

theorem expo_apply (a : FVec Ideal S64x1 .f32) (j : S64x1.Idx) : expo a j = rowExpo (a j) := rfl
theorem pow2_apply (e : IVec S64x1 32) (j : S64x1.Idx) : pow2 (F := Ideal) e j = Ideal.ofBits .f32 (powWord (e j)) := rfl

theorem chunkScale_apply (v : Vec Ideal S64x5120 .bf16) (i : Fin 64) :
    chunkScale v (ix2 i 0) = kScale (amax fun k => v (ix2 i k)) := by
  unfold chunkScale kScale
  rw [shapeCast_id, pow2_apply, expo_apply, chunkMax_apply]

theorem chunkCodes_apply (v : Vec Ideal S64x5120 .bf16) (i : Fin 64) (c : Fin 5120) :
    chunkCodes v (ix2 i c) = code (v (ix2 i c)) (kInverse (amax fun k => v (ix2 i k))) := by
  unfold chunkCodes
  rw [shapeCast_id]
  have e := broadcastTo_a1_ab_apply (b := 5120) (truncf .bf16 (pow2 (F := Ideal) (subi (broadcast S64x1 0#32) (expo (chunkMax v)))) bitsLt_bf16_f32)
    broadcasts_S64x1_S64x5120 i c (by norm_num)
  have e2 : (truncf .bf16 (pow2 (F := Ideal) (subi (broadcast S64x1 0#32) (expo (chunkMax v)))) bitsLt_bf16_f32 : FVec Ideal S64x1 .bf16) (ix2 i 0)
      = kInverse (amax fun k => v (ix2 i k)) := by
    rw [← chunkMax_apply]; rfl
  rw [e2] at e
  show min _ (max _ (v (ix2 i c) * _)) = _
  rw [e]
  rfl

theorem chunkT_apply (v : Vec Ideal S64x5120 .bf16) (a : Vec Ideal S16x5120 .bf16) (i : Fin 64) (r : Fin 16) :
    chunkT v a (ix2 i r) = ∑ k : Fin 5120, v (ix2 i k) * a (ix2 r k) := by
  unfold chunkT k0_pay17
  have e := matmulT_apply (φ₁ := .bf16) (φ₂ := .bf16) v a i r
  rw [← e]
  simp only [shapeCast_id]
  rfl

theorem diag_apply (v : Vec Ideal S128x1 .f32) (j : Fin 128) : k0_pay82 v (ix2 0 j) = v (ix2 j 0) := by
  unfold k0_pay82
  simp only [shapeCast_id]
  refine (ValueIdx.shapeCast_a_1a_apply _ _ 0 j).trans ?_
  refine (Ideal.reduceAdd_r2_a0 reduces_S128x128_S128 (select k0_pay81 (broadcastTo S128x128 v broadcasts_S128x1_S128x128)
    (broadcast S128x128 (Scalar.ofBits (F := Ideal) .f32 0x00000000#32))) (ix1 j)).trans ?_
  have term : ∀ k : Fin 128, select k0_pay81 (broadcastTo S128x128 v broadcasts_S128x1_S128x128)
      (broadcast S128x128 (Scalar.ofBits (F := Ideal) .f32 0x00000000#32)) (ix2 k j) = if k = j then v (ix2 k 0) else 0 := by
    intro k
    rw [← broadcastTo_a1_ab_apply v broadcasts_S128x1_S128x128 k j (by norm_num)]
    show Scalar.select (BitVec.ofBool (decide (BitVec.ofNat 32 (0 * 128 + k.val) = BitVec.ofNat 32 (0 * 128 + j.val)))) _ (Ideal.ofBits .f32 0x00000000#32) = _
    rw [ofBits_zero]
    unfold Scalar.select
    by_cases h : k = j
    · subst h; rw [if_pos rfl, decide_eq_true rfl]; rfl
    · rw [if_neg h, decide_eq_false]
      · rfl
      · intro e
        apply h
        have := congrArg BitVec.toNat e
        rw [BitVec.toNat_ofNat, BitVec.toNat_ofNat] at this
        exact Fin.ext (by omega)
  refine (Finset.sum_congr rfl fun k _ => term k).trans ?_
  rw [Finset.sum_ite_eq' Finset.univ j, if_pos (Finset.mem_univ _)]

theorem slab_apply (C : Vec Ideal S384x5120 .fp8e4m3) (w : Vec Ideal S5120x512 .fp8e4m3) (t : Vec Ideal S384x16 .bf16)
    (b : Vec Ideal S16x512 .bf16) (s : Vec Ideal S384x1 .f32) (ws : Vec Ideal S1x512 .f32) (i : Fin 384) (j : Fin 512) :
    slab C w t b s ws (ix2 i j) = yAt (fun k => C (ix2 i k)) (fun k => w (ix2 k j)) (s (ix2 i 0)) (ws (ix2 0 j))
      (fun r => t (ix2 i r)) (fun r => b (ix2 r j)) := by
  have e1 := matmul_apply (φ₁ := .fp8e4m3) (φ₂ := .fp8e4m3) C w i j
  have e2 := matmul_apply (φ₁ := .bf16) (φ₂ := .bf16) t b i j
  have e3 := broadcastTo_a1_ab_apply s broadcasts_S384x1_S384x512 i j (by norm_num)
  have e4 := ValueIdx.broadcastTo_1b_ab_apply ws broadcasts_S1x512_S384x512 i j
  simp only [ix2_eq] at e4
  unfold slab k0_pay103 yAt
  simp only [shapeCast_id]
  rw [← e1, ← e2, ← e3, ← e4]
  rfl

/-! ## The whole results -/

/-- A row of the matrix of tokens. -/
abbrev row (X : Vec Ideal S384x5120 .bf16) (r : Fin 384) : Fin 5120 → EReal := fun k => X (ix2 r k)

theorem rowBlk_divmod {M H n N : ℕ} {α : Type} (h : M = n * H) (X : (⟨2, ![M, N]⟩ : Shape).Idx → α) (r : Fin M) (c : Fin N)
    (hk : r.val / H < n) (hm : r.val % H < H) : rowBlk h X ⟨r.val / H, hk⟩ (ix2 ⟨r.val % H, hm⟩ c) = X (ix2 r c) := by
  show X (ix2 ⟨r.val / H * H + r.val % H, _⟩ c) = _
  congr 2
  exact Fin.ext (Nat.div_add_mod' _ _)
theorem colBlk_divmod {R W n N : ℕ} {α : Type} (h : N = n * W) (X : (⟨2, ![R, N]⟩ : Shape).Idx → α) (r : Fin R) (c : Fin N)
    (hk : c.val / W < n) (hm : c.val % W < W) : colBlk h X ⟨c.val / W, hk⟩ (ix2 r ⟨c.val % W, hm⟩) = X (ix2 r c) := by
  show X (ix2 r ⟨c.val / W * W + c.val % W, _⟩) = _
  congr 2
  exact Fin.ext (Nat.div_add_mod' _ _)
theorem ofRows_apply {M H n N : ℕ} {α : Type} (h : M = n * H) (hH : 0 < H) (g : Fin n → (⟨2, ![H, N]⟩ : Shape).Idx → α) (r : Fin M) (c : Fin N) :
    ∃ hk : r.val / H < n, ofRows h hH g (ix2 r c) = g ⟨r.val / H, hk⟩ (ix2 ⟨r.val % H, Nat.mod_lt _ hH⟩ c) := ⟨_, rfl⟩
theorem ofCols_apply {R W n N : ℕ} {α : Type} (h : N = n * W) (hW : 0 < W) (g : Fin n → (⟨2, ![R, W]⟩ : Shape).Idx → α) (r : Fin R) (c : Fin N) :
    ∃ hk : c.val / W < n, ofCols h hW g (ix2 r c) = g ⟨c.val / W, hk⟩ (ix2 r ⟨c.val % W, Nat.mod_lt _ hW⟩) := ⟨_, rfl⟩

theorem codesAll_apply (X : Vec Ideal S384x5120 .bf16) (r : Fin 384) (c : Fin 5120) :
    codesAll X (ix2 r c) = code (X (ix2 r c)) (kInverse (amax (row X r))) := by
  unfold codesAll
  obtain ⟨hk, e⟩ := ofRows_apply (n := 6) (H := 64) (by norm_num) (by norm_num) (fun k => chunkCodes (rowBlk (N := 5120) (by norm_num) X k)) r c
  refine e.trans ?_
  rw [chunkCodes_apply]
  simp only [rowBlk_divmod]

theorem scaleCol_apply (X : Vec Ideal S384x5120 .bf16) (r : Fin 384) : scaleCol X (ix2 r 0) = kScale (amax (row X r)) := by
  unfold scaleCol
  obtain ⟨hk, e⟩ := ofRows_apply (n := 6) (H := 64) (by norm_num) (by norm_num) (fun k => chunkScale (rowBlk (N := 5120) (by norm_num) X k)) r 0
  refine e.trans ?_
  rw [chunkScale_apply]
  simp only [rowBlk_divmod]

theorem scaleRow_apply (X : Vec Ideal S384x5120 .bf16) (r : Fin 384) : scaleRow X (ix2 0 r) = kScale (amax (row X r)) := by
  unfold scaleRow
  obtain ⟨hk, e⟩ := ofCols_apply (n := 3) (W := 128) (by norm_num) (by norm_num) (fun k => k0_pay82 (rowBlk (N := 1) (by norm_num) (scaleCol X) k)) 0 r
  refine e.trans ?_
  rw [diag_apply, rowBlk_divmod, scaleCol_apply]

theorem tAll_apply (X : Vec Ideal S384x5120 .bf16) (A : Vec Ideal S16x5120 .bf16) (r : Fin 384) (q : Fin 16) :
    tAll X A (ix2 r q) = ∑ k : Fin 5120, X (ix2 r k) * A (ix2 q k) := by
  unfold tAll
  obtain ⟨hk, e⟩ := ofRows_apply (n := 6) (H := 64) (by norm_num) (by norm_num) (fun k => chunkT (rowBlk (N := 5120) (by norm_num) X k) A) r q
  refine e.trans ?_
  rw [chunkT_apply]
  simp only [rowBlk_divmod]

theorem yAll_apply (X : Vec Ideal S384x5120 .bf16) (W : Vec Ideal S5120x5120 .fp8e4m3) (WS : Vec Ideal S1x5120 .f32)
    (A B : Vec Ideal S16x5120 .bf16) (r : Fin 384) (c : Fin 5120) :
    yAll X W WS A B (ix2 r c) = yAt (fun k => code (X (ix2 r k)) (kInverse (amax (row X r)))) (fun k => W (ix2 k c))
      (kScale (amax (row X r))) (WS (ix2 0 c)) (fun q => ∑ k : Fin 5120, X (ix2 r k) * A (ix2 q k)) (fun q => B (ix2 q c)) := by
  unfold yAll
  obtain ⟨hk, e⟩ := ofCols_apply (n := 10) (W := 512) (by norm_num) (by norm_num) (fun k =>
    slab (codesAll X) (colBlk (R := 5120) (by norm_num) W k) (tAll X A) (colBlk (R := 16) (by norm_num) B k) (scaleCol X) (colBlk (R := 1) (by norm_num) WS k)) r c
  refine e.trans ?_
  rw [slab_apply]
  simp only [colBlk_divmod, codesAll_apply, tAll_apply, scaleCol_apply]

end Cert.KernelIdeal.Value
end
-- ==== Proof.RefValue.lean ====
/-
  Hand-written. What the reference's three results hold at an index, over the extended reals: the same plain sums, maxima and
  row scale as the kernel's.
-/
module
public import proofs.«01_k».proof.Proof.Gen.ReferenceIdeal.Frame
public import proofs.«01_k».proof.Proof.KernelIdeal.Value
@[expose] public section
set_option maxRecDepth 16384
noncomputable section
namespace Cert.ReferenceIdeal.Value
open Cert.ReferenceIdeal Cert.ReferenceIdeal.Gen Cert.KernelIdeal.Value
open Idealize.ShloMosaic
open scoped BigOperators

/-- The largest magnitudes, as a column. -/
def maxCol (X : Vec Ideal S384x5120 .bf16) : FVec Ideal S384x1 .f32 :=
  shapeCast S384x1 (multiReduction .maximumf [1] S384 (absf (k0_pay3 X)) 0xFF800000#32 reduces_S384x5120_S384 (.inl rfl) rfl) shapeCasts_S384_S384x1

theorem maxCol_apply (X : Vec Ideal S384x5120 .bf16) (i : Fin 384) : maxCol X (ix2 i 0) = amax fun k => X (ix2 i k) := by
  have e := rowMax_apply (a := 384) (b := 5120) (φ := .f32) (k0_pay3 X) 0xFF800000#32 negInf_f32 reduces_S384x5120_S384 (.inl rfl) rfl i
  have e2 := ValueIdx.shapeCast_a_a1_apply (multiReduction (F := Ideal) (φ := .f32) .maximumf [1] S384 (absf (k0_pay3 X)) 0xFF800000#32 reduces_S384x5120_S384 (.inl rfl) rfl) shapeCasts_S384_S384x1 i 0
  unfold maxCol
  refine (e2.trans e).trans ?_
  unfold k0_pay3 k0_pay2
  simp only [shapeCast_id]
  rfl

/-- The least power of two above, as a column. -/
def leastCol (q : FVec Ideal S384x253 .f32) : FVec Ideal S384x1 .f32 :=
  shapeCast S384x1 (multiReduction .minimumf [1] S384 q 0x7F800000#32 reduces_S384x253_S384 (.inl rfl) rfl) shapeCasts_S384_S384x1

set_option backward.isDefEq.respectTransparency false in
theorem leastCol_apply (q : FVec Ideal S384x253 .f32) (i : Fin 384) :
    leastCol q (ix2 i 0) = (Finset.univ : Finset (Fin 253)).fold min (Ideal.ofBits .f32 0x7F800000#32) fun k => q (ix2 i k) := by
  have e2 := ValueIdx.shapeCast_a_a1_apply (multiReduction (F := Ideal) (φ := .f32) .minimumf [1] S384 q 0x7F800000#32 reduces_S384x253_S384 (.inl rfl) rfl) shapeCasts_S384_S384x1 i 0
  unfold leastCol
  refine e2.trans ?_
  rw [multiReduction_minimumf_eq_fold, Shape.Reduces.fold_fiber_r2_a1]
  rfl

/-- The values the scale is the power of two above, as a column. -/
def valCol (X : Vec Ideal S384x5120 .bf16) : FVec Ideal S384x1 .f32 := mulf (maxCol X) (broadcast S384x1 (Scalar.ofBits .f32 0x3B124925#32))
/-- The powers above each row's value, and infinity at the others. -/
def aboveAll (v : FVec Ideal S384x1 .f32) (T : Vec Ideal S1x253 .f32) : FVec Ideal S384x253 .f32 :=
  select (cmpf .olt (broadcastTo S384x253 v broadcasts_S384x1_S384x253) (broadcastTo S384x253 T broadcasts_S1x253_S384x253))
    (broadcastTo S384x253 T broadcasts_S1x253_S384x253) (broadcast S384x253 (Scalar.ofBits .f32 0x7F800000#32))

theorem pay4_eq (X : Vec Ideal S384x5120 .bf16) (T : Vec Ideal S1x253 .f32) :
    k0_pay4 X T = select (ori (cmpf .olt (valCol X) (broadcast S384x1 (Scalar.ofBits .f32 0x00800000#32)))
        (cmpf .oeq (valCol X) (broadcast S384x1 (Scalar.ofBits .f32 0x7F800000#32))))
      (broadcast S384x1 (Scalar.ofBits .f32 0x3F800000#32)) (leastCol (aboveAll (valCol X) T)) := by
  unfold k0_pay4 leastCol aboveAll valCol maxCol
  simp only [shapeCast_id]

theorem aboveAll_apply (v : FVec Ideal S384x1 .f32) (T : Vec Ideal S1x253 .f32) (i : Fin 384) (k : Fin 253) :
    aboveAll v T (ix2 i k) = Scalar.select (FloatOps.cmpf (F := Ideal) (φ := .f32) .olt (v (ix2 i 0)) (T (ix2 0 k))) (T (ix2 0 k))
      (Ideal.ofBits .f32 0x7F800000#32) := by
  have e3 := broadcastTo_a1_ab_apply (a := 384) (b := 253) v broadcasts_S384x1_S384x253 i k (by norm_num)
  have e4 := ValueIdx.broadcastTo_1b_ab_apply T broadcasts_S1x253_S384x253 i k
  simp only [ix2_eq] at e4
  rw [← e3, ← e4]
  rfl

/-! ## The pointwise operations, at an index of any shape -/

theorem val_at {s : Shape} (v : FVec Ideal s .f32) (j : s.Idx) :
    mulf v (broadcast s (Scalar.ofBits .f32 0x3B124925#32)) j = v j * Ideal.ofBits .f32 0x3B124925#32 := rfl
theorem choose_at {s : Shape} (v l : FVec Ideal s .f32) (j : s.Idx) :
    select (ori (cmpf .olt v (broadcast s (Scalar.ofBits .f32 0x00800000#32))) (cmpf .oeq v (broadcast s (Scalar.ofBits .f32 0x7F800000#32))))
      (broadcast s (Scalar.ofBits .f32 0x3F800000#32)) l j
    = Scalar.select (IntOp.ori
        (FloatOps.cmpf (F := Ideal) (φ := .f32) .olt (v j) (Ideal.ofBits .f32 0x00800000#32))
        (FloatOps.cmpf (F := Ideal) (φ := .f32) .oeq (v j) (Ideal.ofBits .f32 0x7F800000#32)))
      (Ideal.ofBits .f32 0x3F800000#32) (l j) := rfl
theorem inverse_at {s : Shape} (v : FVec Ideal s .f32) (j : s.Idx) :
    select (cmpf .olt (divf (broadcast s (Scalar.ofBits .f32 0x3F800000#32)) v) (broadcast s (Scalar.ofBits .f32 0x00800000#32)))
      (broadcast s (Scalar.ofBits .f32 0x00000000#32)) (divf (broadcast s (Scalar.ofBits .f32 0x3F800000#32)) v) j = rInverse (v j) := rfl
theorem clip_at {s : Shape} (x z : FVec Ideal s .f32) (j : s.Idx) :
    truncf .fp8e4m3 (minimumf (broadcast s (Scalar.ofBits .f32 0x43E00000#32)) (maximumf (broadcast s (Scalar.ofBits .f32 0xC3E00000#32)) (mulf x z)))
      bitsLt_fp8e4m3_f32 j = code (x j) (z j) := rfl
theorem combine_at {s : Shape} (a b w u : FVec Ideal s .f32) (j : s.Idx) :
    truncf .bf16 (addf (mulf (mulf a b) w) (mulf (broadcast s (Scalar.ofBits .f32 0x40000000#32)) u)) bitsLt_bf16_f32 j
      = a j * b j * w j + Ideal.ofBits .f32 0x40000000#32 * u j := rfl
theorem extf_at {s : Shape} (x : FVec Ideal s .bf16) (j : s.Idx) : extf .f32 x bitsLt_bf16_f32 j = x j := rfl
theorem truncf_at {s : Shape} (x : FVec Ideal s .f32) (j : s.Idx) : truncf .bf16 x bitsLt_bf16_f32 j = x j := rfl

/-! ## The results at an index -/

theorem scale_apply (X : Vec Ideal S384x5120 .bf16) (T : Vec Ideal S1x253 .f32) (i : Fin 384) :
    k0_pay4 X T (ix2 i 0) = rScale (amax fun k => X (ix2 i k)) fun k => T (ix2 0 k) := by
  rw [pay4_eq, choose_at, leastCol_apply]
  simp only [aboveAll_apply]
  unfold valCol
  rw [val_at, maxCol_apply]
  generalize amax (fun k => X (ix2 i k)) = a
  unfold rScale
  rfl

theorem codes_apply (X : Vec Ideal S384x5120 .bf16) (T : Vec Ideal S1x253 .f32) (i : Fin 384) (c : Fin 5120) :
    k0_pay5 X T (ix2 i c) = code (X (ix2 i c)) (rInverse (rScale (amax fun k => X (ix2 i k)) fun k => T (ix2 0 k))) := by
  rw [← scale_apply]
  unfold k0_pay5
  generalize k0_pay4 X T = s
  unfold k0_pay3 k0_pay2
  simp only [shapeCast_id]
  rw [clip_at, extf_at, ← inverse_at]
  congr 1
  exact broadcastTo_a1_ab_apply (a := 384) (b := 5120) _ broadcasts_S384x1_S384x5120 i c (by norm_num)

theorem y_apply (X : Vec Ideal S384x5120 .bf16) (T : Vec Ideal S1x253 .f32) (W : Vec Ideal S5120x5120 .fp8e4m3) (WS : Vec Ideal S1x5120 .f32)
    (A : Vec Ideal S5120x16 .bf16) (B : Vec Ideal S16x5120 .bf16) (i : Fin 384) (j : Fin 5120) :
    k0_pay1 (k0_pay2 X) (k0_pay4 X T) (k0_pay6 X T W) WS A B (ix2 i j)
      = yAt (fun k => code (X (ix2 i k)) (rInverse (rScale (amax fun k => X (ix2 i k)) fun k => T (ix2 0 k)))) (fun k => W (ix2 k j))
          (rScale (amax fun k => X (ix2 i k)) fun k => T (ix2 0 k)) (WS (ix2 0 j)) (fun q => ∑ k : Fin 5120, X (ix2 i k) * A (ix2 k q))
          (fun q => B (ix2 q j)) := by
  have e3 := broadcastTo_a1_ab_apply (b := 5120) (k0_pay4 X T) broadcasts_S384x1_S384x5120 i j (by norm_num)
  have e4 := ValueIdx.broadcastTo_1b_ab_apply WS broadcasts_S1x5120_S384x5120 i j
  simp only [ix2_eq] at e4
  have e1 : k0_pay6 X T W (ix2 i j) = ∑ k : Fin 5120, k0_pay5 X T (ix2 i k) * W (ix2 k j) := by
    unfold k0_pay6
    generalize k0_pay5 X T = C
    exact matmul_apply (φ₁ := .fp8e4m3) (φ₂ := .fp8e4m3) C W i j
  have e2 : ∀ q : Fin 16, (matmul dot_S384x5120_S5120x16_S384x16_1_0_0_1_n_n none (φ₁ := .bf16) (φ₂ := .bf16) X A
      (constant S384x16 .f32 0x00000000#32) : FVec Ideal S384x16 .f32) (ix2 i q) = ∑ k : Fin 5120, X (ix2 i k) * A (ix2 k q) :=
    fun q => matmul_apply (φ₁ := .bf16) (φ₂ := .bf16) X A i q
  generalize hP : (matmul dot_S384x5120_S5120x16_S384x16_1_0_0_1_n_n none (φ₁ := .bf16) (φ₂ := .bf16) X A
      (constant S384x16 .f32 0x00000000#32) : FVec Ideal S384x16 .f32) = P at e2
  have e5 : (matmul dot_S384x16_S16x5120_S384x5120_1_0_0_1_n_n none (φ₁ := .bf16) (φ₂ := .bf16) (truncf .bf16 P bitsLt_bf16_f32) B
      (constant S384x5120 .f32 0x00000000#32) : FVec Ideal S384x5120 .f32) (ix2 i j)
        = ∑ q : Fin 16, (truncf .bf16 P bitsLt_bf16_f32 : FVec Ideal S384x16 .bf16) (ix2 i q) * B (ix2 q j) :=
    matmul_apply (φ₁ := .bf16) (φ₂ := .bf16) (truncf .bf16 P bitsLt_bf16_f32) B i j
  simp only [truncf_at, e2] at e5
  unfold k0_pay1 k0_pay2
  simp only [shapeCast_id]
  rw [hP, combine_at, e3, e4, e5, e1]
  simp only [codes_apply, scale_apply]
  rfl

end Cert.ReferenceIdeal.Value
end
-- ==== Proof.RefRun.lean ====
/-
  Hand-written. How the reference ends: its arguments as they were, its three results at its payloads' reshapes.
-/
module
public import proofs.«01_k».proof.Proof.Gen.ReferenceIdeal.Frame
public import Idealize.ShloMosaic.Lib.Pipeline.Value
public import Idealize.ShloMosaic.Lib.Claim
public import Idealize.ShloMosaic.Lib.Tactic
@[expose] public section
set_option maxRecDepth 16384
noncomputable section
namespace Cert.ReferenceIdeal.Hand
open Cert.ReferenceIdeal Cert.ReferenceIdeal.Gen
open Idealize.ShloMosaic Idealize.ShloMosaic.TcCoe Idealize.SL.Sem
open Idealize.ShloMosaic.Pipeline (Dat Cfg Window)
variable {F : FTy → Type} [FloatOps F]
variable (m : (ℓ : Loc nD τ sig) → Buf (Elt F) ℓ) (ρ : Dev nD → PrngReg)

/-- The one grid point. -/
def t₀ : Fin cfg0.N := ⟨0, by decide⟩

/-! ## The windows' blocks are the whole arrays -/

theorem block_0 (c : Dev nD) : iblk m c 0 t₀ = V m c main_v0 :=
  Memref.read_access_unit_zero (Elt F) main_v0 (off := fun a => (win0_0.index t₀) a * main_v0.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_v0)

theorem block_1 (c : Dev nD) : iblk m c 1 t₀ = V m c main_arg1 :=
  Memref.read_access_unit_zero (Elt F) main_arg1 (off := fun a => (win0_1.index t₀) a * main_arg1.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_arg1)

theorem block_2 (c : Dev nD) : iblk m c 2 t₀ = V m c main_v1 :=
  Memref.read_access_unit_zero (Elt F) main_v1 (off := fun a => (win0_2.index t₀) a * main_v1.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_v1)

theorem block_3 (c : Dev nD) : iblk m c 3 t₀ = V m c main_arg3 :=
  Memref.read_access_unit_zero (Elt F) main_arg3 (off := fun a => (win0_3.index t₀) a * main_arg3.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_arg3)

theorem block_4 (c : Dev nD) : iblk m c 4 t₀ = V m c main_arg4 :=
  Memref.read_access_unit_zero (Elt F) main_arg4 (off := fun a => (win0_4.index t₀) a * main_arg4.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_arg4)

theorem block_5 (c : Dev nD) : iblk m c 5 t₀ = V m c main_v2 :=
  Memref.read_access_unit_zero (Elt F) main_v2 (off := fun a => (win0_5.index t₀) a * main_v2.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) (V m c main_v2)

/-- The array of window 6 at the region's end: what the body left at the one point. -/
theorem final_6 (c : Dev nD) : (dats m 0 c).arrAt 6 cfg0.N
    = out0_6 (V m c main_v0) (V m c main_arg1) (V m c main_v1) (V m c main_arg3) (V m c main_arg4) (V m c main_v2) := by
  have ho : ((cfg0.win (6 : Fin 9)).blk t₀).view.read (Elt F) ((dats m 0 c).arrAt (6 : Fin 9) cfg0.N)
      = (dats m 0 c).flushed (6 : Fin 9) t₀ := by
    rw [show cfg0.N = (t₀ : Fin cfg0.N).val + 1 from rfl, (dats m 0 c).arrAt_succ (6 : Fin 9) t₀]
    rw [show (cfg0.win (6 : Fin 9)).flush t₀ = true from by decide, if_pos rfl]
    exact View.read_write_univ _ _
  have hr := Memref.read_access_unit_zero (Elt F) main_v3_0 (off := fun a => (win0_6.index t₀) a * main_v3_0.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) ((dats m 0 c).arrAt (6 : Fin 9) cfg0.N)
  refine hr.symm.trans (ho.trans ?_)
  show (cfg0.win (6 : Fin 9)).cut _ ((dats m 0 c).after (6 : Fin 9) t₀) = _
  rw [after0_6, block_0, block_1, block_2, block_3, block_4, block_5]
  rfl

/-- The array of window 7 at the region's end: what the body left at the one point. -/
theorem final_7 (c : Dev nD) : (dats m 0 c).arrAt 7 cfg0.N
    = out0_7 (V m c main_v0) (V m c main_arg1) (V m c main_v1) (V m c main_arg3) (V m c main_arg4) (V m c main_v2) := by
  have ho : ((cfg0.win (7 : Fin 9)).blk t₀).view.read (Elt F) ((dats m 0 c).arrAt (7 : Fin 9) cfg0.N)
      = (dats m 0 c).flushed (7 : Fin 9) t₀ := by
    rw [show cfg0.N = (t₀ : Fin cfg0.N).val + 1 from rfl, (dats m 0 c).arrAt_succ (7 : Fin 9) t₀]
    rw [show (cfg0.win (7 : Fin 9)).flush t₀ = true from by decide, if_pos rfl]
    exact View.read_write_univ _ _
  have hr := Memref.read_access_unit_zero (Elt F) main_v3_1 (off := fun a => (win0_7.index t₀) a * main_v3_1.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) ((dats m 0 c).arrAt (7 : Fin 9) cfg0.N)
  refine hr.symm.trans (ho.trans ?_)
  show (cfg0.win (7 : Fin 9)).cut _ ((dats m 0 c).after (7 : Fin 9) t₀) = _
  rw [after0_7, block_0, block_1, block_2, block_3, block_4, block_5]
  rfl

/-- The array of window 8 at the region's end: what the body left at the one point. -/
theorem final_8 (c : Dev nD) : (dats m 0 c).arrAt 8 cfg0.N
    = out0_8 (V m c main_v0) (V m c main_arg1) (V m c main_v1) (V m c main_arg3) (V m c main_arg4) (V m c main_v2) := by
  have ho : ((cfg0.win (8 : Fin 9)).blk t₀).view.read (Elt F) ((dats m 0 c).arrAt (8 : Fin 9) cfg0.N)
      = (dats m 0 c).flushed (8 : Fin 9) t₀ := by
    rw [show cfg0.N = (t₀ : Fin cfg0.N).val + 1 from rfl, (dats m 0 c).arrAt_succ (8 : Fin 9) t₀]
    rw [show (cfg0.win (8 : Fin 9)).flush t₀ = true from by decide, if_pos rfl]
    exact View.read_write_univ _ _
  have hr := Memref.read_access_unit_zero (Elt F) main_v3_2 (off := fun a => (win0_8.index t₀) a * main_v3_2.ty.shape.size a)
    (funext fun a => by match a with | ⟨0, _⟩ => exact Nat.zero_mul _ | ⟨1, _⟩ => exact Nat.zero_mul _)
    (fun a => by match a with | ⟨0, _⟩ => exact (Nat.zero_mul _).symm ▸ (Nat.zero_add _).le | ⟨1, _⟩ => exact (Nat.zero_mul _).symm ▸ (Nat.zero_add _).le) ((dats m 0 c).arrAt (8 : Fin 9) cfg0.N)
  refine hr.symm.trans (ho.trans ?_)
  show (cfg0.win (8 : Fin 9)).cut _ ((dats m 0 c).after (8 : Fin 9) t₀) = _
  rw [after0_8, block_0, block_1, block_2, block_3, block_4, block_5]
  rfl

/-! ## The body's results are its payloads -/

theorem zeros2 : (![0, 0] : Fin 2 → ℕ) = fun _ => 0 := funext fun a => by match a with | 0 => rfl | 1 => rfl
variable (x0 : Vec F S384x5120 .bf16) (x1 : Vec F S5120x5120 .fp8e4m3) (x2 : Vec F S1x5120 .f32) (x3 : Vec F S5120x16 .bf16) (x4 : Vec F S16x5120 .bf16) (x5 : Vec F S1x253 .f32)

theorem scale_eq : out0_8 x0 x1 x2 x3 x4 x5 = k0_pay4 x0 x5 := by
  unfold out0_8 k0_pay7
  rw [View.canon_unit_zero zeros2, View.ld_unit_zero zeros2, View.ld_unit_zero zeros2]
theorem codes_eq : out0_7 x0 x1 x2 x3 x4 x5 = k0_pay5 x0 x5 := by
  unfold out0_7
  rw [View.canon_unit_zero zeros2, View.ld_unit_zero zeros2, View.ld_unit_zero zeros2]
theorem y_eq : out0_6 x0 x1 x2 x3 x4 x5 = k0_pay1 (k0_pay2 x0) (k0_pay4 x0 x5) (k0_pay6 x0 x5 x1) x2 x3 x4 := by
  unfold out0_6 k0_pay7
  rw [View.canon_unit_zero zeros2, View.ld_unit_zero zeros2, View.ld_unit_zero zeros2, View.ld_unit_zero zeros2, View.ld_unit_zero zeros2, View.ld_unit_zero zeros2, View.ld_unit_zero zeros2]

/-! ## The results at the program's end -/

theorem ending_y (c : Dev nD) : Pipeline.afterTail₀ cfgs (dats m) 0 (V0 m) [hostOps1] c main_v4
    = shapeCast S1x384x5120 (k0_pay1 (k0_pay2 (V m c main_v0)) (k0_pay4 (V m c main_v0) (V m c main_v2)) (k0_pay6 (V m c main_v0) (V m c main_v2) (V m c main_arg1)) (V m c main_v1) (V m c main_arg3) (V m c main_arg4)) shapeCasts_S384x5120_S1x384x5120 := by
  unfold Pipeline.afterTail₀
  simp only [List.flatten_cons, List.flatten_nil, List.append_nil]
  after_results
  rw [← y_eq, ← final_6]
  have e := Pipeline.withArrays_arr (cfgs 0).spec launch0.win.arr_inj c (V0 m c) (fun w => (dats m 0 c).arrAt w (cfgs 0).N) 6
  exact congrArg (fun z => shapeCast S1x384x5120 z shapeCasts_S384x5120_S1x384x5120) e

theorem ending_codes (c : Dev nD) : Pipeline.afterTail₀ cfgs (dats m) 0 (V0 m) [hostOps1] c main_v5
    = shapeCast S1x384x5120 (k0_pay5 (V m c main_v0) (V m c main_v2)) shapeCasts_S384x5120_S1x384x5120 := by
  unfold Pipeline.afterTail₀
  simp only [List.flatten_cons, List.flatten_nil, List.append_nil]
  after_results
  rw [← codes_eq, ← final_7]
  have e := Pipeline.withArrays_arr (cfgs 0).spec launch0.win.arr_inj c (V0 m c) (fun w => (dats m 0 c).arrAt w (cfgs 0).N) 7
  exact congrArg (fun z => shapeCast S1x384x5120 z shapeCasts_S384x5120_S1x384x5120) e

theorem ending_scale (c : Dev nD) : Pipeline.afterTail₀ cfgs (dats m) 0 (V0 m) [hostOps1] c main_v6
    = shapeCast S1x384x1 (k0_pay4 (V m c main_v0) (V m c main_v2)) shapeCasts_S384x1_S1x384x1 := by
  unfold Pipeline.afterTail₀
  simp only [List.flatten_cons, List.flatten_nil, List.append_nil]
  after_results
  rw [← scale_eq, ← final_8]
  have e := Pipeline.withArrays_arr (cfgs 0).spec launch0.win.arr_inj c (V0 m c) (fun w => (dats m 0 c).arrAt w (cfgs 0).N) 8
  exact congrArg (fun z => shapeCast S1x384x1 z shapeCasts_S384x1_S1x384x1) e

/-- The whole reference: it terminates without a fault, its arguments end as they were, and its results are the reshapes of
    the payloads at what the first host lines make of the arguments. -/
theorem run_values : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v4)
          = shapeCast S1x384x5120 (k0_pay1 (k0_pay2 (V m c main_v0)) (k0_pay4 (V m c main_v0) (V m c main_v2)) (k0_pay6 (V m c main_v0) (V m c main_v2) (V m c main_arg1)) (V m c main_v1) (V m c main_arg3) (V m c main_arg4)) shapeCasts_S384x5120_S1x384x5120
      ∧ r.2.mem ((c.tc : Thread nD τ).loc main_v5)
          = shapeCast S1x384x5120 (k0_pay5 (V m c main_v0) (V m c main_v2)) shapeCasts_S384x5120_S1x384x5120
      ∧ r.2.mem ((c.tc : Thread nD τ).loc main_v6)
          = shapeCast S1x384x1 (k0_pay4 (V m c main_v0) (V m c main_v2)) shapeCasts_S384x1_S1x384x1) :=
  (θ_run defs _ _).mono (fun r h c =>
    have k := fun b hb => (h.2 c).2 b hb
    ⟨h.1 c, (k main_v4 (by decide)).trans (ending_y m c), (k main_v5 (by decide)).trans (ending_codes m c),
      (k main_v6 (by decide)).trans (ending_scale m c)⟩) (θ_run_and (unchanged m ρ) (run_main m ρ))

/-! ## What the first host lines make of the arguments -/

theorem tokens_eq (c : Dev nD) : V m c main_v0
    = shapeCast S384x5120 (m ((c.tc : Thread nD τ).loc main_arg0)) shapeCasts_S1x384x5120_S384x5120 := by
  unfold V V0
  simp only [List.flatten_cons, List.flatten_nil, List.append_nil]
  after_results
  rfl
theorem wscale_eq (c : Dev nD) : V m c main_v1
    = shapeCast S1x5120 (m ((c.tc : Thread nD τ).loc main_arg2)) shapeCasts_S5120_S1x5120 := by
  unfold V V0
  simp only [List.flatten_cons, List.flatten_nil, List.append_nil]
  after_results
  rfl
theorem powers_eq (c : Dev nD) : V m c main_v2
    = shapeCast S1x253 (fun i => FloatOps.ofBits .f32 (lit0 (S253.rowMajor i))) shapeCasts_S253_S1x253 := by
  unfold V V0
  simp only [List.flatten_cons, List.flatten_nil, List.append_nil]
  after_results
  rfl

end Cert.ReferenceIdeal.Hand
end
-- ==== Proof.Same.lean ====
/-
  Hand-written. The kernel's three results are the reference's, over the extended reals: at every index both are the same
  sums of the same codes, scales and low-rank products, by `Field`'s two theorems about the scale of one row.
-/
module
public import proofs.«01_k».proof.Proof.KernelIdeal.Launch
public import proofs.«01_k».proof.Proof.RefValue
public import proofs.«01_k».proof.Proof.RefRun
@[expose] public section
set_option maxRecDepth 16384
noncomputable section
namespace Cert.Same
open Cert.KernelIdeal.Value Cert.KernelIdeal.Hand
open Idealize.ShloMosaic Idealize.ShloMosaic.TcCoe Idealize.SL.Sem
open Cert.KernelIdeal (S384x5120 S5120x5120 S1x5120 S16x5120 S1x384 S1x384x1 S1x384x5120 S384x1 S5120x16)
open Cert.ReferenceIdeal (S1x253)
open scoped BigOperators

/-! ## At an index -/

section
variable (X : Vec Ideal S384x5120 .bf16) (T : Vec Ideal S1x253 .f32) (hT : ∀ k : Fin 253, T (ix2 0 k) = P (k.val + 2))
include hT

theorem scale_same (r : Fin 384) : kScale (amax (row X r)) = rScale (amax fun k => X (ix2 r k)) fun k => T (ix2 0 k) :=
  kScale_eq_rScale _ (amax_nonneg _ 0) _ hT
theorem inverse_same (r : Fin 384) : kInverse (amax (row X r)) = rInverse (rScale (amax fun k => X (ix2 r k)) fun k => T (ix2 0 k)) :=
  kInverse_eq_rInverse _ (amax_nonneg _ 0) _ hT

/-- The codes are the reference's. -/
theorem codes_same : codesAll X = Cert.ReferenceIdeal.Gen.k0_pay5 X T := by
  funext j
  obtain ⟨r, c, rfl⟩ : ∃ (r : Fin 384) (c : Fin 5120), j = ix2 r c := ⟨j 0, j 1, ValueIdx.eq_ix2 j⟩
  rw [codesAll_apply, Cert.ReferenceIdeal.Value.codes_apply, inverse_same X T hT]

/-- `y` is the reference's. -/
theorem y_same (W : Vec Ideal S5120x5120 .fp8e4m3) (WS : Vec Ideal S1x5120 .f32) (A' : Vec Ideal S16x5120 .bf16)
    (A : Vec Ideal S5120x16 .bf16) (B : Vec Ideal S16x5120 .bf16) (hA : ∀ (q : Fin 16) (k : Fin 5120), A' (ix2 q k) = A (ix2 k q)) :
    yAll X W WS A' B = Cert.ReferenceIdeal.Gen.k0_pay1 (Cert.ReferenceIdeal.Gen.k0_pay2 X) (Cert.ReferenceIdeal.Gen.k0_pay4 X T)
      (Cert.ReferenceIdeal.Gen.k0_pay6 X T W) WS A B := by
  funext j
  obtain ⟨r, c, rfl⟩ : ∃ (r : Fin 384) (c : Fin 5120), j = ix2 r c := ⟨j 0, j 1, ValueIdx.eq_ix2 j⟩
  rw [yAll_apply, Cert.ReferenceIdeal.Value.y_apply, inverse_same X T hT, scale_same X T hT]
  simp only [hA]

/-- The scales, shaped as returned, are the reference's. -/
theorem scales_same (h : S1x384.ShapeCasts S1x384x1) (h' : S384x1.ShapeCasts S1x384x1) :
    shapeCast S1x384x1 (scaleRow X) h = shapeCast S1x384x1 (Cert.ReferenceIdeal.Gen.k0_pay4 X T) h' := by
  funext j
  have e1 := shapeCast_apply (scaleRow X) h j (ix2 (0 : Fin 1) (j 1)) (by
    rw [Shape.rowMajor_val_two, Shape.rowMajor_val_three]
    have h0 : (j 0).val < 1 := (j 0).isLt
    have h2 : (j 2).val < 1 := (j 2).isLt
    show 0 * 384 + (j 1).val = ((j 0).val * 384 + (j 1).val) * 1 + (j 2).val
    omega)
  have e2 := shapeCast_apply (Cert.ReferenceIdeal.Gen.k0_pay4 X T) h' j (ix2 (j 1) (0 : Fin 1)) (by
    rw [Shape.rowMajor_val_two, Shape.rowMajor_val_three]
    have h0 : (j 0).val < 1 := (j 0).isLt
    have h2 : (j 2).val < 1 := (j 2).isLt
    show (j 1).val * 1 + 0 = ((j 0).val * 384 + (j 1).val) * 1 + (j 2).val
    omega)
  refine e1.trans (Eq.trans ?_ e2.symm)
  exact (scaleRow_apply X (j 1)).trans ((scale_same X T hT (j 1)).trans (Cert.ReferenceIdeal.Value.scale_apply X T (j 1)).symm)
end

/-! ## What the programs' first host lines hand the bodies -/

section
variable (m : (ℓ : Loc Cert.KernelIdeal.nD Cert.KernelIdeal.τ Cert.KernelIdeal.sig) → Buf (Elt Ideal) ℓ)
open Cert.KernelIdeal Cert.KernelIdeal.Gen

theorem tokens_eq (c : Dev nD) : V m c main_v0
    = shapeCast S384x5120 (m ((c.tc : Thread nD τ).loc main_arg0)) shapeCasts_S1x384x5120_S384x5120 := by
  unfold V V0
  simp only [List.flatten_cons, List.flatten_nil, List.append_nil]
  after_results
  rfl
theorem wscale_eq (c : Dev nD) : V m c main_v1
    = shapeCast S1x5120 (m ((c.tc : Thread nD τ).loc main_arg2)) shapeCasts_S5120_S1x5120 := by
  unfold V V0
  simp only [List.flatten_cons, List.flatten_nil, List.append_nil]
  after_results
  rfl
theorem factor_eq (c : Dev nD) : V m c main_v2
    = transpose S16x5120 [1, 0] (m ((c.tc : Thread nD τ).loc main_arg3)) transposes_S5120x16_S16x5120_1_0 := by
  unfold V V0
  simp only [List.flatten_cons, List.flatten_nil, List.append_nil]
  after_results
/-- The low-rank factor the kernel reads is the argument transposed. -/
theorem factor_apply (c : Dev nD) (q : Fin 16) (k : Fin 5120) :
    V m c main_v2 (ix2 q k) = m ((c.tc : Thread nD τ).loc main_arg3) (ix2 k q) := by
  rw [factor_eq]
  unfold transpose
  congr 1
  funext a
  match a with
  | ⟨0, _⟩ => rfl
  | ⟨1, _⟩ => rfl
end

set_option maxRecDepth 65536 in
theorem literal : ∀ k : Fin 253, Cert.ReferenceIdeal.lit0 k = BitVec.ofNat 32 (k.val + 2) <<< 23 := by decide

/-- The reference's table holds the powers of two of the normal range, in order. -/
theorem powers_apply (m : (ℓ : Loc Cert.ReferenceIdeal.nD Cert.ReferenceIdeal.τ Cert.ReferenceIdeal.sig) → Buf (Elt Ideal) ℓ)
    (c : Dev Cert.ReferenceIdeal.nD) (k : Fin 253) :
    Cert.ReferenceIdeal.Gen.V m c Cert.ReferenceIdeal.main_v2 (ix2 0 k) = P (k.val + 2) := by
  rw [Cert.ReferenceIdeal.Hand.powers_eq]
  refine (ValueIdx.shapeCast_a_1a_apply _ _ 0 k).trans ?_
  show Ideal.ofBits .f32 (Cert.ReferenceIdeal.lit0 (Cert.ReferenceIdeal.S253.rowMajor (ValueIdx.ix1 k))) = _
  have e : Cert.ReferenceIdeal.S253.rowMajor (ValueIdx.ix1 k) = k := Fin.ext (Shape.rowMajor_val_one _)
  unfold P
  rw [← literal k]
  exact congrArg (fun z => Ideal.ofBits .f32 (Cert.ReferenceIdeal.lit0 z)) e

end Cert.Same
end
-- ==== Proof.lean ====
module

public import proofs.«01_k».proof.Defs
public import proofs.«01_k».proof.Proof.Kernel.Launch
public import proofs.«01_k».proof.Proof.KernelIdeal.Launch
public import proofs.«01_k».proof.Proof.Gen.ReferenceIdeal.Frame
public import proofs.«01_k».proof.Proof.Same

@[expose] public section

noncomputable section

namespace Cert.Proof

open Idealize.ShloMosaic Idealize.SL.Sem Cert.Kernel

/-- From memories that agree on the five arguments, the kernel and the reference both end with their arguments unchanged and
    the same three results. -/
theorem algebraic : Cert.algebraic_KernelIdeal_ReferenceIdeal (hKernelIdeal := Cert.KernelIdeal.Gen.facts)
    (hReferenceIdeal := Cert.ReferenceIdeal.Gen.facts) := by
  intro m g m' g' _ hag
  have hX : ∀ c, Cert.ReferenceIdeal.Gen.V m' c Cert.ReferenceIdeal.main_v0 = Cert.KernelIdeal.Gen.V m c Cert.KernelIdeal.main_v0 := fun c => by
    rw [Cert.ReferenceIdeal.Hand.tokens_eq, Cert.Same.tokens_eq, (hag c).1]
  have hW : ∀ c, Cert.ReferenceIdeal.Gen.V m' c Cert.ReferenceIdeal.main_arg1 = Cert.KernelIdeal.Gen.V m c Cert.KernelIdeal.main_arg1 := fun c => by
    rw [Cert.ReferenceIdeal.Gen.V_main_arg1, Cert.KernelIdeal.Gen.V_main_arg1]
    exact (hag c).2.1
  have hWS : ∀ c, Cert.ReferenceIdeal.Gen.V m' c Cert.ReferenceIdeal.main_v1 = Cert.KernelIdeal.Gen.V m c Cert.KernelIdeal.main_v1 := fun c => by
    rw [Cert.ReferenceIdeal.Hand.wscale_eq, Cert.Same.wscale_eq, (hag c).2.2.1]
  have hB : ∀ c, Cert.ReferenceIdeal.Gen.V m' c Cert.ReferenceIdeal.main_arg4 = Cert.KernelIdeal.Gen.V m c Cert.KernelIdeal.main_arg4 := fun c => by
    rw [Cert.ReferenceIdeal.Gen.V_main_arg4, Cert.KernelIdeal.Gen.V_main_arg4]
    exact (hag c).2.2.2.2
  have hA : ∀ c (q : Fin 16) (k : Fin 5120), Cert.KernelIdeal.Gen.V m c Cert.KernelIdeal.main_v2 (ix2 q k)
      = Cert.ReferenceIdeal.Gen.V m' c Cert.ReferenceIdeal.main_arg3 (ix2 k q) := fun c q k => by
    rw [Cert.Same.factor_apply, Cert.ReferenceIdeal.Gen.V_main_arg3]
    exact (congrFun (hag c).2.2.2.1 (ix2 k q)).symm
  refine ⟨fun c => shapeCast Cert.KernelIdeal.S1x384x5120 (Cert.KernelIdeal.Hand.yAll (Cert.KernelIdeal.Gen.V m c Cert.KernelIdeal.main_v0)
        (Cert.KernelIdeal.Gen.V m c Cert.KernelIdeal.main_arg1) (Cert.KernelIdeal.Gen.V m c Cert.KernelIdeal.main_v1)
        (Cert.KernelIdeal.Gen.V m c Cert.KernelIdeal.main_v2) (Cert.KernelIdeal.Gen.V m c Cert.KernelIdeal.main_arg4))
        Cert.KernelIdeal.Gen.shapeCasts_S384x5120_S1x384x5120,
    fun c => shapeCast Cert.KernelIdeal.S1x384x5120 (Cert.KernelIdeal.Hand.codesAll (Cert.KernelIdeal.Gen.V m c Cert.KernelIdeal.main_v0))
        Cert.KernelIdeal.Gen.shapeCasts_S384x5120_S1x384x5120,
    fun c => shapeCast Cert.KernelIdeal.S1x384x1 (Cert.KernelIdeal.Hand.scaleRow (Cert.KernelIdeal.Gen.V m c Cert.KernelIdeal.main_v0))
        Cert.KernelIdeal.Gen.shapeCasts_S1x384_S1x384x1,
    (θ_run Cert.KernelIdeal.defs _ _).mono (fun r h c => ?_) (Cert.KernelIdeal.Hand.run_values m g),
    (θ_run Cert.ReferenceIdeal.defs _ _).mono (fun r h c => ?_) (Cert.ReferenceIdeal.Hand.run_values m' g')⟩
  · obtain ⟨⟨a0, a1, a2, a3, a4⟩, y, codes, scales⟩ := h.1 c
    exact ⟨y, codes, scales, a0, a1, a2, a3, a4⟩
  · obtain ⟨⟨a0, a1, a2, a3, a4⟩, y, codes, scales⟩ := h c
    rw [hX, hW, hWS, hB] at y
    rw [hX] at codes scales
    have hT := Cert.Same.powers_apply m' c
    refine ⟨y.trans ?_, codes.trans ?_, scales.trans ?_, a0, a1, a2, a3, a4⟩
    · exact congrArg (fun z => shapeCast Cert.KernelIdeal.S1x384x5120 z Cert.KernelIdeal.Gen.shapeCasts_S384x5120_S1x384x5120)
        (Cert.Same.y_same _ _ hT _ _ _ _ _ (hA c)).symm
    · exact congrArg (fun z => shapeCast Cert.KernelIdeal.S1x384x5120 z Cert.KernelIdeal.Gen.shapeCasts_S384x5120_S1x384x5120)
        (Cert.Same.codes_same _ _ hT).symm
    · exact (Cert.Same.scales_same _ _ hT _ _).symm

/-- Every claim: the three programs run, end with their arguments unchanged and their counters at zero; the idealized kernel
    is the kernel; and its results are the reference's. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
